-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .f32 0x28C00000#32 ((2097152 / 98382634693289195453 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn_part1 {F : FTy → Type} [FloatOps F] (main_arg1 : IVec S16384x128 32) (main_v14 : IVec S_ 1) (main_c_7 : IVec S_ 32) : IVec S_ 1 :=
  let main_v15 : IVec S16384x128 32 := broadcastInDim S16384x128 ![] bcast_S_S16384x128 main_c_7
  let main_v16 : IVec S16384x128 1 := cmpi .ne main_arg1 main_v15
  let main_c_8 : IVec S_ 1 := constantI S_ 1 1#1
  let main_v17 : IVec S_ 1 := (fun x v => Host.reduce IntOp.andi x v reducesTo_S16384x128_S_d0_1 h_S_) main_v16 main_c_8
  let main_v18 : IVec S_ 1 := andi main_v14 main_v17
  main_v18

def fn {F : FTy → Type} [FloatOps F] (main_arg0 : IVec S16384x128 32) (main_arg1 : IVec S16384x128 32) : IVec S_ 1 :=
  let main_c : IVec S_ 32 := constantI S_ 32 2147483647#32
  let main_v0 : IVec S16384x128 32 := broadcastInDim S16384x128 ![] bcast_S_S16384x128 main_c
  let main_v1 : IVec S16384x128 32 := andi main_arg0 main_v0
  let main_c_0 : IVec S_ 32 := constantI S_ 32 2139095040#32
  let main_v2 : IVec S16384x128 32 := broadcastInDim S16384x128 ![] bcast_S_S16384x128 main_c_0
  let main_v3 : IVec S16384x128 1 := cmpi .sle main_v1 main_v2
  let main_c_1 : IVec S_ 1 := constantI S_ 1 1#1
  let main_v4 : IVec S_ 1 := (fun x v => Host.reduce IntOp.andi x v reducesTo_S16384x128_S_d0_1 h_S_) main_v3 main_c_1
  let main_c_2 : IVec S_ 32 := constantI S_ 32 2147483647#32
  let main_v5 : IVec S16384x128 32 := broadcastInDim S16384x128 ![] bcast_S_S16384x128 main_c_2
  let main_v6 : IVec S16384x128 32 := andi main_arg1 main_v5
  let main_c_3 : IVec S_ 32 := constantI S_ 32 2139095040#32
  let main_v7 : IVec S16384x128 32 := broadcastInDim S16384x128 ![] bcast_S_S16384x128 main_c_3
  let main_v8 : IVec S16384x128 1 := cmpi .sle main_v6 main_v7
  let main_c_4 : IVec S_ 1 := constantI S_ 1 1#1
  let main_v9 : IVec S_ 1 := (fun x v => Host.reduce IntOp.andi x v reducesTo_S16384x128_S_d0_1 h_S_) main_v8 main_c_4
  let main_v10 : IVec S_ 1 := andi main_v4 main_v9
  let main_c_5 : IVec S_ 32 := constantI S_ 32 2147483648#32
  let main_v11 : IVec S16384x128 32 := broadcastInDim S16384x128 ![] bcast_S_S16384x128 main_c_5
  let main_v12 : IVec S16384x128 1 := cmpi .ne main_arg0 main_v11
  let main_c_6 : IVec S_ 1 := constantI S_ 1 1#1
  let main_v13 : IVec S_ 1 := (fun x v => Host.reduce IntOp.andi x v reducesTo_S16384x128_S_d0_1 h_S_) main_v12 main_c_6
  let main_v14 : IVec S_ 1 := andi main_v10 main_v13
  let main_c_7 : IVec S_ 32 := constantI S_ 32 2147483648#32
  fn_part1 (F := F) main_arg1 main_v14 main_c_7
-- ==== Kernel.lean ====
abbrev S16384x128 : Shape := ⟨2, ![16384, 128]⟩
abbrev S128x16384 : Shape := ⟨2, ![128, 16384]⟩
abbrev S32x16 : Shape := ⟨2, ![32, 16]⟩
abbrev S16384 : Shape := ⟨1, ![16384]⟩
abbrev S5120 : Shape := ⟨1, ![5120]⟩
abbrev S16 : Shape := ⟨1, ![16]⟩
abbrev S_ : Shape := ⟨0, ![]⟩
abbrev S1x16384 : Shape := ⟨2, ![1, 16384]⟩
abbrev S1x16 : Shape := ⟨2, ![1, 16]⟩

abbrev nBuf : Table → Nat
  | .hbm => 8
  | .local .scVector .vmem => 6
  | _ => 0

abbrev bufTy : (tb : Table) → Fin (nBuf tb) → BufTy
  | .hbm, ⟨0, _⟩ => ⟨S16384x128, .i32⟩
  | .hbm, ⟨1, _⟩ => ⟨S16384x128, .i32⟩
  | .hbm, ⟨2, _⟩ => ⟨S128x16384, .i32⟩
  | .hbm, ⟨3, _⟩ => ⟨S128x16384, .i32⟩
  | .hbm, ⟨4, _⟩ => ⟨S32x16, .f32⟩
  | .hbm, ⟨5, _⟩ => ⟨S_, .f32⟩
  | .hbm, ⟨6, _⟩ => ⟨S_, .f32⟩
  | .hbm, ⟨7, _⟩ => ⟨S_, .f32⟩
  | .local .scVector .vmem, ⟨0, _⟩ => ⟨S16384, .i32⟩
  | .local .scVector .vmem, ⟨1, _⟩ => ⟨S16384, .i32⟩
  | .local .scVector .vmem, ⟨2, _⟩ => ⟨S16384, .i32⟩
  | .local .scVector .vmem, ⟨3, _⟩ => ⟨S16384, .f32⟩
  | .local .scVector .vmem, ⟨4, _⟩ => ⟨S5120, .i32⟩
  | .local .scVector .vmem, ⟨5, _⟩ => ⟨S16, .f32⟩
  | _, _ => ⟨S16384x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v8 : BitVec 32 := Scalar.muli v1 c4_i32_2
  let c0_i32 : BitVec 32 := 0#32
  let c1_i32 : BitVec 32 := 1#32
  let arg11 : BitVec 32 := Scf.iv c0_i32 c1_i32 k0_t1
  let v9 : BitVec 32 := Scalar.addi v8 arg11
  let c0_i32_93_r0 : BitVec 32 := 0#32
  ![v9.toNat, 0]
@[reducible] def k0_t2_loop : Scf.Loop 32 :=
  let c0_i32_5 : BitVec 32 := 0#32
  let c80_i32 : BitVec 32 := 80#32
  let v11 : BitVec 32 := Scalar.addi c0_i32_5 c80_i32
  let c1_i32_6 : BitVec 32 := 1#32
  ⟨c0_i32_5, v11, c1_i32_6⟩
def k0_off2 (k0_t2 : Fin k0_t2_loop.trips) (c0_i32_94 : BitVec 32) : Fin 1 → Nat :=
  let c0_i32_5 : BitVec 32 := 0#32
  let c1_i32_6 : BitVec 32 := 1#32
  let arg13 : BitVec 32 := Scf.iv c0_i32_5 c1_i32_6 k0_t2
  let c64_i32_93 : BitVec 32 := 64#32
  let v56 : BitVec 32 := Scalar.muli arg13 c64_i32_93
  let v57 : BitVec 32 := Scalar.addi v56 c0_i32_94
  let v58 : Index := Scalar.indexCast v57
  ![v58.toNat]
@[reducible] def k0_t3_loop : Scf.Loop 32 :=
  let c0_i32_10 : BitVec 32 := 0#32
  let c1024_i32 : BitVec 32 := 1024#32
  let v14 : BitVec 32 := Scalar.addi c0_i32_10 c1024_i32
  let c1_i32_11 : BitVec 32 := 1#32
  ⟨c0_i32_10, v14, c1_i32_11⟩
def k0_off3 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c16_i32 : BitVec 32 := 16#32
  let v56 : BitVec 32 := Scalar.muli arg13 c16_i32
  let v57 : Index := Scalar.indexCast v56
  ![v57.toNat]

def k0_chk1 (v67 : IVec S16 32) : Prop :=
  (∀ a x, ((![v67] : Fin 1 → IVec S16 32) a x).toNat < S5120.size a)
theorem k0_idx1_inb : ∀ (v67 : IVec S16 32) (k0_hw1 : k0_chk1 v67), ∀ a x, ((![v67] : Fin 1 → IVec S16 32) a x).toNat < S5120.size a := fun v67 k0_hw1 => k0_hw1

def k0_chk2 (v73 : IVec S16 32) : Prop :=
  (∀ a x, ((![v73] : Fin 1 → IVec S16 32) a x).toNat < S5120.size a)
theorem k0_idx2_inb : ∀ (v73 : IVec S16 32) (k0_hw2 : k0_chk2 v73), ∀ a x, ((![v73] : Fin 1 → IVec S16 32) a x).toNat < S5120.size a := fun v73 k0_hw2 => k0_hw2

def k0_chk3 (v77 : IVec S16 32) : Prop :=
  (∀ a x, ((![v77] : Fin 1 → IVec S16 32) a x).toNat < S5120.size a)
theorem k0_idx3_inb : ∀ (v77 : IVec S16 32) (k0_hw3 : k0_chk3 v77), ∀ a x, ((![v77] : Fin 1 → IVec S16 32) a x).toNat < S5120.size a := fun v77 k0_hw3 => k0_hw3
@[reducible] def k0_t4_loop : Scf.Loop 32 :=
  let c0_i32_14 : BitVec 32 := 0#32
  let c128_i32 : BitVec 32 := 128#32
  let v16 : BitVec 32 := Scalar.addi c0_i32_14 c128_i32
  let c1_i32_15 : BitVec 32 := 1#32
  ⟨c0_i32_14, v16, c1_i32_15⟩
def k0_off4 (k0_t4 : Fin k0_t4_loop.trips) : Fin 1 → Nat :=
  let c0_i32_93 : BitVec 32 := 0#32
  let c0_i32_14 : BitVec 32 := 0#32
  let c1_i32_15 : BitVec 32 := 1#32
  let arg13 : BitVec 32 := Scf.iv c0_i32_14 c1_i32_15 k0_t4
  let c16_i32 : BitVec 32 := 16#32
  let v56 : BitVec 32 := Scalar.muli arg13 c16_i32
  let v57 : BitVec 32 := Scalar.addi c0_i32_93 v56
  let v58 : Index := Scalar.indexCast v57
  ![v58.toNat]
@[reducible] def k0_t5_loop : Scf.Loop 32 :=
  let c0_i32_18 : BitVec 32 := 0#32
  let c128_i32_19 : BitVec 32 := 128#32
  let v18 : BitVec 32 := Scalar.addi c0_i32_18 c128_i32_19
  let c1_i32_20 : BitVec 32 := 1#32
  ⟨c0_i32_18, v18, c1_i32_20⟩
def k0_off5 (k0_t5 : Fin k0_t5_loop.trips) : Fin 1 → Nat :=
  let c2048_i32_93 : BitVec 32 := 2048#32
  let c0_i32_18 : BitVec 32 := 0#32
  let c1_i32_20 : BitVec 32 := 1#32
  let arg13 : BitVec 32 := Scf.iv c0_i32_18 c1_i32_20 k0_t5
  let c16_i32 : BitVec 32 := 16#32
  let v56 : BitVec 32 := Scalar.muli arg13 c16_i32
  let v57 : BitVec 32 := Scalar.addi c2048_i32_93 v56
  let v58 : Index := Scalar.indexCast v57
  ![v58.toNat]
@[reducible] def k0_t6_loop : Scf.Loop 32 :=
  let c0_i32_23 : BitVec 32 := 0#32
  let c64_i32 : BitVec 32 := 64#32
  let v20 : BitVec 32 := Scalar.addi c0_i32_23 c64_i32
  let c1_i32_24 : BitVec 32 := 1#32
  ⟨c0_i32_23, v20, c1_i32_24⟩
def k0_off6 (k0_t6 : Fin k0_t6_loop.trips) : Fin 1 → Nat :=
  let c4096_i32_93 : BitVec 32 := 4096#32
  let c0_i32_23 : BitVec 32 := 0#32
  let c1_i32_24 : BitVec 32 := 1#32
  let arg13 : BitVec 32 := Scf.iv c0_i32_23 c1_i32_24 k0_t6
  let c16_i32 : BitVec 32 := 16#32
  let v56 : BitVec 32 := Scalar.muli arg13 c16_i32
  let v57 : BitVec 32 := Scalar.addi c4096_i32_93 v56
  let v58 : Index := Scalar.indexCast v57
  ![v58.toNat]
@[reducible] def k0_t7_loop : Scf.Loop 32 :=
  let c0_i32_29 : BitVec 32 := 0#32
  let c1024_i32_30 : BitVec 32 := 1024#32
  let v25 : BitVec 32 := Scalar.addi c0_i32_29 c1024_i32_30
  let c1_i32_31 : BitVec 32 := 1#32
  ⟨c0_i32_29, v25, c1_i32_31⟩
def k0_off7 (k0_t7 : Fin k0_t7_loop.trips) : Fin 1 → Nat :=
  let c0_i32_29 : BitVec 32 := 0#32
  let c1_i32_31 : BitVec 32 := 1#32
  let arg13 : BitVec 32 := Scf.iv c0_i32_29 c1_i32_31 k0_t7
  let c16_i32 : BitVec 32 := 16#32
  let v56 : BitVec 32 := Scalar.muli arg13 c16_i32
  let v57 : Index := Scalar.indexCast v56
  ![v57.toNat]

def k0_chk4 (v70 : IVec S16 32) : Prop :=
  (∀ a x, ((![v70] : Fin 1 → IVec S16 32) a x).toNat < S5120.size a) ∧
  (∀ a x, ((![v70] : Fin 1 → IVec S16 32) a x).toNat < S5120.size a)
theorem k0_idx4_inb : ∀ (v70 : IVec S16 32) (k0_hw4 : k0_chk4 v70), ∀ a x, ((![v70] : Fin 1 → IVec S16 32) a x).toNat < S5120.size a := fun v70 k0_hw4 => k0_hw4.1
theorem k0_idx5_inb : ∀ (v70 : IVec S16 32) (k0_hw4 : k0_chk4 v70), ∀ a x, ((![v70] : Fin 1 → IVec S16 32) a x).toNat < S5120.size a := fun v70 k0_hw4 => k0_hw4.2

def k0_chk5 (v75 : IVec S16 32) : Prop :=
  (∀ a x, ((![v75] : Fin 1 → IVec S16 32) a x).toNat < S16384.size a) ∧
  (∀ a x, ((![v75] : Fin 1 → IVec S16 32) a x).toNat < S16384.size a)
theorem k0_idx6_inb : ∀ (v75 : IVec S16 32) (k0_hw5 : k0_chk5 v75), ∀ a x, ((![v75] : Fin 1 → IVec S16 32) a x).toNat < S16384.size a := fun v75 k0_hw5 => k0_hw5.1
theorem k0_idx7_inb : ∀ (v75 : IVec S16 32) (k0_hw5 : k0_chk5 v75), ∀ a x, ((![v75] : Fin 1 → IVec S16 32) a x).toNat < S16384.size a := fun v75 k0_hw5 => k0_hw5.2
@[reducible] def k0_t8_loop : Scf.Loop 32 :=
  let c0_i32_35 : BitVec 32 := 0#32
  let c1024_i32_36 : BitVec 32 := 1024#32
  let v28 : BitVec 32 := Scalar.addi c0_i32_35 c1024_i32_36
  let c1_i32_37 : BitVec 32 := 1#32
  ⟨c0_i32_35, v28, c1_i32_37⟩
def k0_off8 (k0_t8 : Fin k0_t8_loop.trips) : Fin 1 → Nat :=
  let c0_i32_35 : BitVec 32 := 0#32
  let c1_i32_37 : BitVec 32 := 1#32
  let arg13 : BitVec 32 := Scf.iv c0_i32_35 c1_i32_37 k0_t8
  let c16_i32 : BitVec 32 := 16#32
  let v56 : BitVec 32 := Scalar.muli arg13 c16_i32
  let v57 : Index := Scalar.indexCast v56
  ![v57.toNat]

def k0_chk6 (v67 : IVec S16 32) : Prop :=
  (∀ a x, ((![v67] : Fin 1 → IVec S16 32) a x).toNat < S5120.size a) ∧
  (∀ a x, ((![v67] : Fin 1 → IVec S16 32) a x).toNat < S5120.size a)
theorem k0_idx8_inb : ∀ (v67 : IVec S16 32) (k0_hw6 : k0_chk6 v67), ∀ a x, ((![v67] : Fin 1 → IVec S16 32) a x).toNat < S5120.size a := fun v67 k0_hw6 => k0_hw6.1
theorem k0_idx9_inb : ∀ (v67 : IVec S16 32) (k0_hw6 : k0_chk6 v67), ∀ a x, ((![v67] : Fin 1 → IVec S16 32) a x).toNat < S5120.size a := fun v67 k0_hw6 => k0_hw6.2

def k0_chk7 (v72 : IVec S16 32) : Prop :=
  (∀ a x, ((![v72] : Fin 1 → IVec S16 32) a x).toNat < S16384.size a)
theorem k0_idx10_inb : ∀ (v72 : IVec S16 32) (k0_hw7 : k0_chk7 v72), ∀ a x, ((![v72] : Fin 1 → IVec S16 32) a x).toNat < S16384.size a := fun v72 k0_hw7 => k0_hw7
@[reducible] def k0_t9_loop : Scf.Loop 32 :=
  let c0_i32_41 : BitVec 32 := 0#32
  let c1024_i32_42 : BitVec 32 := 1024#32
  let v31 : BitVec 32 := Scalar.addi c0_i32_41 c1024_i32_42
  let c1_i32_43 : BitVec 32 := 1#32
  ⟨c0_i32_41, v31, c1_i32_43⟩
def k0_off9 (k0_t9 : Fin k0_t9_loop.trips) : Fin 1 → Nat :=
  let c0_i32_41 : BitVec 32 := 0#32
  let c1_i32_43 : BitVec 32 := 1#32
  let arg13 : BitVec 32 := Scf.iv c0_i32_41 c1_i32_43 k0_t9
  let c16_i32 : BitVec 32 := 16#32
  let v56 : BitVec 32 := Scalar.muli arg13 c16_i32
  let v57 : Index := Scalar.indexCast v56
  ![v57.toNat]

def k0_chk8 (v64 : IVec S16 32) : Prop :=
  (∀ a x, ((![v64] : Fin 1 → IVec S16 32) a x).toNat < S5120.size a) ∧
  (∀ a x, ((![v64] : Fin 1 → IVec S16 32) a x).toNat < S5120.size a)
theorem k0_idx11_inb : ∀ (v64 : IVec S16 32) (k0_hw8 : k0_chk8 v64), ∀ a x, ((![v64] : Fin 1 → IVec S16 32) a x).toNat < S5120.size a := fun v64 k0_hw8 => k0_hw8.1
theorem k0_idx12_inb : ∀ (v64 : IVec S16 32) (k0_hw8 : k0_chk8 v64), ∀ a x, ((![v64] : Fin 1 → IVec S16 32) a x).toNat < S5120.size a := fun v64 k0_hw8 => k0_hw8.2

def k0_chk9 (v60 : IVec S16 32) : Prop :=
  (∀ a x, ((![v60] : Fin 1 → IVec S16 32) a x).toNat < S16384.size a)
theorem k0_idx13_inb : ∀ (v60 : IVec S16 32) (k0_hw9 : k0_chk9 v60), ∀ a x, ((![v60] : Fin 1 → IVec S16 32) a x).toNat < S16384.size a := fun v60 k0_hw9 => k0_hw9
@[reducible] def k0_t10_loop : Scf.Loop 32 :=
  let c0_i32_47 : BitVec 32 := 0#32
  let c80_i32_48 : BitVec 32 := 80#32
  let v33 : BitVec 32 := Scalar.addi c0_i32_47 c80_i32_48
  let c1_i32_49 : BitVec 32 := 1#32
  ⟨c0_i32_47, v33, c1_i32_49⟩
def k0_off10 (k0_t10 : Fin k0_t10_loop.trips) (c0_i32_94 : BitVec 32) : Fin 1 → Nat :=
  let c0_i32_47 : BitVec 32 := 0#32
  let c1_i32_49 : BitVec 32 := 1#32
  let arg13 : BitVec 32 := Scf.iv c0_i32_47 c1_i32_49 k0_t10
  let c64_i32_93 : BitVec 32 := 64#32
  let v56 : BitVec 32 := Scalar.muli arg13 c64_i32_93
  let v57 : BitVec 32 := Scalar.addi v56 c0_i32_94
  let v58 : Index := Scalar.indexCast v57
  ![v58.toNat]
@[reducible] def k0_t11_loop : Scf.Loop 32 :=
  let c0_i32_53 : BitVec 32 := 0#32
  let c1024_i32_54 : BitVec 32 := 1024#32
  let v36 : BitVec 32 := Scalar.addi c0_i32_53 c1024_i32_54
  let c1_i32_55 : BitVec 32 := 1#32
  ⟨c0_i32_53, v36, c1_i32_55⟩
def k0_off11 (k0_t11 : Fin k0_t11_loop.trips) : Fin 1 → Nat :=
  let c0_i32_53 : BitVec 32 := 0#32
  let c1_i32_55 : BitVec 32 := 1#32
  let arg13 : BitVec 32 := Scf.iv c0_i32_53 c1_i32_55 k0_t11
  let c16_i32 : BitVec 32 := 16#32
  let v56 : BitVec 32 := Scalar.muli arg13 c16_i32
  let v57 : Index := Scalar.indexCast v56
  ![v57.toNat]

def k0_chk10 (v67 : IVec S16 32) : Prop :=
  (∀ a x, ((![v67] : Fin 1 → IVec S16 32) a x).toNat < S5120.size a)
theorem k0_idx14_inb : ∀ (v67 : IVec S16 32) (k0_hw10 : k0_chk10 v67), ∀ a x, ((![v67] : Fin 1 → IVec S16 32) a x).toNat < S5120.size a := fun v67 k0_hw10 => k0_hw10

def k0_chk11 (v73 : IVec S16 32) : Prop :=
  (∀ a x, ((![v73] : Fin 1 → IVec S16 32) a x).toNat < S5120.size a)
theorem k0_idx15_inb : ∀ (v73 : IVec S16 32) (k0_hw11 : k0_chk11 v73), ∀ a x, ((![v73] : Fin 1 → IVec S16 32) a x).toNat < S5120.size a := fun v73 k0_hw11 => k0_hw11

def k0_chk12 (v77 : IVec S16 32) : Prop :=
  (∀ a x, ((![v77] : Fin 1 → IVec S16 32) a x).toNat < S5120.size a)
theorem k0_idx16_inb : ∀ (v77 : IVec S16 32) (k0_hw12 : k0_chk12 v77), ∀ a x, ((![v77] : Fin 1 → IVec S16 32) a x).toNat < S5120.size a := fun v77 k0_hw12 => k0_hw12
@[reducible] def k0_t12_loop : Scf.Loop 32 :=
  let c0_i32_58 : BitVec 32 := 0#32
  let c128_i32_59 : BitVec 32 := 128#32
  let v38 : BitVec 32 := Scalar.addi c0_i32_58 c128_i32_59
  let c1_i32_60 : BitVec 32 := 1#32
  ⟨c0_i32_58, v38, c1_i32_60⟩
def k0_off12 (k0_t12 : Fin k0_t12_loop.trips) : Fin 1 → Nat :=
  let c0_i32_93 : BitVec 32 := 0#32
  let c0_i32_58 : BitVec 32 := 0#32
  let c1_i32_60 : BitVec 32 := 1#32
  let arg13 : BitVec 32 := Scf.iv c0_i32_58 c1_i32_60 k0_t12
  let c16_i32 : BitVec 32 := 16#32
  let v56 : BitVec 32 := Scalar.muli arg13 c16_i32
  let v57 : BitVec 32 := Scalar.addi c0_i32_93 v56
  let v58 : Index := Scalar.indexCast v57
  ![v58.toNat]
@[reducible] def k0_t13_loop : Scf.Loop 32 :=
  let c0_i32_63 : BitVec 32 := 0#32
  let c128_i32_64 : BitVec 32 := 128#32
  let v40 : BitVec 32 := Scalar.addi c0_i32_63 c128_i32_64
  let c1_i32_65 : BitVec 32 := 1#32
  ⟨c0_i32_63, v40, c1_i32_65⟩
def k0_off13 (k0_t13 : Fin k0_t13_loop.trips) : Fin 1 → Nat :=
  let c2048_i32_93 : BitVec 32 := 2048#32
  let c0_i32_63 : BitVec 32 := 0#32
  let c1_i32_65 : BitVec 32 := 1#32
  let arg13 : BitVec 32 := Scf.iv c0_i32_63 c1_i32_65 k0_t13
  let c16_i32 : BitVec 32 := 16#32
  let v56 : BitVec 32 := Scalar.muli arg13 c16_i32
  let v57 : BitVec 32 := Scalar.addi c2048_i32_93 v56
  let v58 : Index := Scalar.indexCast v57
  ![v58.toNat]
@[reducible] def k0_t14_loop : Scf.Loop 32 :=
  let c0_i32_68 : BitVec 32 := 0#32
  let c64_i32_69 : BitVec 32 := 64#32
  let v42 : BitVec 32 := Scalar.addi c0_i32_68 c64_i32_69
  let c1_i32_70 : BitVec 32 := 1#32
  ⟨c0_i32_68, v42, c1_i32_70⟩
def k0_off14 (k0_t14 : Fin k0_t14_loop.trips) : Fin 1 → Nat :=
  let c4096_i32_93 : BitVec 32 := 4096#32
  let c0_i32_68 : BitVec 32 := 0#32
  let c1_i32_70 : BitVec 32 := 1#32
  let arg13 : BitVec 32 := Scf.iv c0_i32_68 c1_i32_70 k0_t14
  let c16_i32 : BitVec 32 := 16#32
  let v56 : BitVec 32 := Scalar.muli arg13 c16_i32
  let v57 : BitVec 32 := Scalar.addi c4096_i32_93 v56
  let v58 : Index := Scalar.indexCast v57
  ![v58.toNat]
@[reducible] def k0_t15_loop : Scf.Loop 32 :=
  let c0_i32_75 : BitVec 32 := 0#32
  let c1024_i32_76 : BitVec 32 := 1024#32
  let v47 : BitVec 32 := Scalar.addi c0_i32_75 c1024_i32_76
  let c1_i32_77 : BitVec 32 := 1#32
  ⟨c0_i32_75, v47, c1_i32_77⟩
def k0_off15 (k0_t15 : Fin k0_t15_loop.trips) : Fin 1 → Nat :=
  let c0_i32_75 : BitVec 32 := 0#32
  let c1_i32_77 : BitVec 32 := 1#32
  let arg13 : BitVec 32 := Scf.iv c0_i32_75 c1_i32_77 k0_t15
  let c16_i32 : BitVec 32 := 16#32
  let v56 : BitVec 32 := Scalar.muli arg13 c16_i32
  let v57 : Index := Scalar.indexCast v56
  ![v57.toNat]

def k0_chk13 (v70 : IVec S16 32) : Prop :=
  (∀ a x, ((![v70] : Fin 1 → IVec S16 32) a x).toNat < S5120.size a) ∧
  (∀ a x, ((![v70] : Fin 1 → IVec S16 32) a x).toNat < S5120.size a)
theorem k0_idx17_inb : ∀ (v70 : IVec S16 32) (k0_hw13 : k0_chk13 v70), ∀ a x, ((![v70] : Fin 1 → IVec S16 32) a x).toNat < S5120.size a := fun v70 k0_hw13 => k0_hw13.1
theorem k0_idx18_inb : ∀ (v70 : IVec S16 32) (k0_hw13 : k0_chk13 v70), ∀ a x, ((![v70] : Fin 1 → IVec S16 32) a x).toNat < S5120.size a := fun v70 k0_hw13 => k0_hw13.2

def k0_chk14 (v75 : IVec S16 32) : Prop :=
  (∀ a x, ((![v75] : Fin 1 → IVec S16 32) a x).toNat < S16384.size a) ∧
  (∀ a x, ((![v75] : Fin 1 → IVec S16 32) a x).toNat < S16384.size a)
theorem k0_idx19_inb : ∀ (v75 : IVec S16 32) (k0_hw14 : k0_chk14 v75), ∀ a x, ((![v75] : Fin 1 → IVec S16 32) a x).toNat < S16384.size a := fun v75 k0_hw14 => k0_hw14.1
theorem k0_idx20_inb : ∀ (v75 : IVec S16 32) (k0_hw14 : k0_chk14 v75), ∀ a x, ((![v75] : Fin 1 → IVec S16 32) a x).toNat < S16384.size a := fun v75 k0_hw14 => k0_hw14.2
@[reducible] def k0_t16_loop : Scf.Loop 32 :=
  let c0_i32_82 : BitVec 32 := 0#32
  let c1024_i32_83 : BitVec 32 := 1024#32
  let v50 : BitVec 32 := Scalar.addi c0_i32_82 c1024_i32_83
  let c1_i32_84 : BitVec 32 := 1#32
  ⟨c0_i32_82, v50, c1_i32_84⟩
def k0_off16 (k0_t16 : Fin k0_t16_loop.trips) : Fin 1 → Nat :=
  let c0_i32_82 : BitVec 32 := 0#32
  let c1_i32_84 : BitVec 32 := 1#32
  let arg13 : BitVec 32 := Scf.iv c0_i32_82 c1_i32_84 k0_t16
  let c16_i32 : BitVec 32 := 16#32
  let v56 : BitVec 32 := Scalar.muli arg13 c16_i32
  let v57 : Index := Scalar.indexCast v56
  ![v57.toNat]

def k0_chk15 (v67 : IVec S16 32) : Prop :=
  (∀ a x, ((![v67] : Fin 1 → IVec S16 32) a x).toNat < S5120.size a) ∧
  (∀ a x, ((![v67] : Fin 1 → IVec S16 32) a x).toNat < S5120.size a)
theorem k0_idx21_inb : ∀ (v67 : IVec S16 32) (k0_hw15 : k0_chk15 v67), ∀ a x, ((![v67] : Fin 1 → IVec S16 32) a x).toNat < S5120.size a := fun v67 k0_hw15 => k0_hw15.1
theorem k0_idx22_inb : ∀ (v67 : IVec S16 32) (k0_hw15 : k0_chk15 v67), ∀ a x, ((![v67] : Fin 1 → IVec S16 32) a x).toNat < S5120.size a := fun v67 k0_hw15 => k0_hw15.2

def k0_chk16 (v72 : IVec S16 32) : Prop :=
  (∀ a x, ((![v72] : Fin 1 → IVec S16 32) a x).toNat < S16384.size a)
theorem k0_idx23_inb : ∀ (v72 : IVec S16 32) (k0_hw16 : k0_chk16 v72), ∀ a x, ((![v72] : Fin 1 → IVec S16 32) a x).toNat < S16384.size a := fun v72 k0_hw16 => k0_hw16
@[reducible] def k0_t17_loop : Scf.Loop 32 :=
  let c0_i32_89 : BitVec 32 := 0#32
  let c1024_i32_90 : BitVec 32 := 1024#32
  let v53 : BitVec 32 := Scalar.addi c0_i32_89 c1024_i32_90
  let c1_i32_91 : BitVec 32 := 1#32
  ⟨c0_i32_89, v53, c1_i32_91⟩
def k0_off17 (k0_t17 : Fin k0_t17_loop.trips) : Fin 1 → Nat :=
  let c0_i32_89 : BitVec 32 := 0#32
  let c1_i32_91 : BitVec 32 := 1#32
  let arg13 : BitVec 32 := Scf.iv c0_i32_89 c1_i32_91 k0_t17
  let c16_i32 : BitVec 32 := 16#32
  let v56 : BitVec 32 := Scalar.muli arg13 c16_i32
  let v57 : Index := Scalar.indexCast v56
  ![v57.toNat]

def k0_chk17 (v64 : IVec S16 32) : Prop :=
  (∀ a x, ((![v64] : Fin 1 → IVec S16 32) a x).toNat < S5120.size a) ∧
  (∀ a x, ((![v64] : Fin 1 → IVec S16 32) a x).toNat < S5120.size a)
theorem k0_idx24_inb : ∀ (v64 : IVec S16 32) (k0_hw17 : k0_chk17 v64), ∀ a x, ((![v64] : Fin 1 → IVec S16 32) a x).toNat < S5120.size a := fun v64 k0_hw17 => k0_hw17.1
theorem k0_idx25_inb : ∀ (v64 : IVec S16 32) (k0_hw17 : k0_chk17 v64), ∀ a x, ((![v64] : Fin 1 → IVec S16 32) a x).toNat < S5120.size a := fun v64 k0_hw17 => k0_hw17.2

def k0_chk18 (v60 : IVec S16 32) : Prop :=
  (∀ a x, ((![v60] : Fin 1 → IVec S16 32) a x).toNat < S16384.size a)
theorem k0_idx26_inb : ∀ (v60 : IVec S16 32) (k0_hw18 : k0_chk18 v60), ∀ a x, ((![v60] : Fin 1 → IVec S16 32) a x).toNat < S16384.size a := fun v60 k0_hw18 => k0_hw18
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "scale" => some ((2097152 / 98382634693289195453 : ℝ) : EReal)
  | _ => none
-- ==== ReferenceIdeal.lean ====
abbrev S16384x128 : Shape := ⟨2, ![16384, 128]⟩
abbrev S_ : Shape := ⟨0, ![]⟩
abbrev S128 : Shape := ⟨1, ![128]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S16384x128, .i32⟩
  | .hbm, ⟨1, _⟩ => ⟨S16384x128, .i32⟩
  | .hbm, ⟨2, _⟩ => ⟨S16384x128, .f32⟩
  | .hbm, ⟨3, _⟩ => ⟨S16384x128, .f32⟩
  | .hbm, ⟨4, _⟩ => ⟨S16384x128, .i32⟩
  | .hbm, ⟨5, _⟩ => ⟨S16384x128, .f32⟩
  | .hbm, ⟨6, _⟩ => ⟨S16384x128, .i32⟩
  | .hbm, ⟨7, _⟩ => ⟨S16384x128, .i32⟩
  | .hbm, ⟨8, _⟩ => ⟨S16384x128, .i32⟩
  | .hbm, ⟨9, _⟩ => ⟨S16384x128, .i32⟩
  | .hbm, ⟨10, _⟩ => ⟨S_, .i32⟩
  | .hbm, ⟨11, _⟩ => ⟨S16384x128, .i32⟩
  | .hbm, ⟨12, _⟩ => ⟨S16384x128, .i32⟩
  | .hbm, ⟨13, _⟩ => ⟨S16384x128, .f32⟩
  | .hbm, ⟨14, _⟩ => ⟨S16384x128, .i32⟩
  | .hbm, ⟨15, _⟩ => ⟨S16384x128, .f32⟩
  | .hbm, ⟨16, _⟩ => ⟨S16384x128, .i32⟩
  | .hbm, ⟨17, _⟩ => ⟨S16384x128, .i32⟩
  | .hbm, ⟨18, _⟩ => ⟨S16384x128, .i32⟩
  | .hbm, ⟨19, _⟩ => ⟨S16384x128, .i32⟩
  | .hbm, ⟨20, _⟩ => ⟨S_, .i32⟩
  | .hbm, ⟨21, _⟩ => ⟨S16384x128, .i32⟩
  | .hbm, ⟨22, _⟩ => ⟨S16384x128, .i32⟩
  | .hbm, ⟨23, _⟩ => ⟨S16384x128, .f32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S16384x128, .f32⟩
  | .hbm, ⟨31, _⟩ => ⟨S16384x128, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S16384x128, .f32⟩
  | .hbm, ⟨54, _⟩ => ⟨S16384x128, .f32⟩
  | .hbm, ⟨55, _⟩ => ⟨S16384x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S16384x128, .f32⟩
  | .hbm, ⟨81, _⟩ => ⟨S16384x128, .f32⟩
  | .hbm, ⟨82, _⟩ => ⟨S16384x128, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1_0 : Ref sig .tc := ⟨.hbm, 5, rfl⟩
abbrev main_v2 : Ref sig .tc := ⟨.hbm, 6, rfl⟩
abbrev main_call1_v0 : Ref sig .tc := ⟨.hbm, 7, rfl⟩
abbrev main_call1_v1_0 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call2_v0 : Ref sig .tc := ⟨.hbm, 14, rfl⟩
abbrev main_call2_v1_0 : Ref sig .tc := ⟨.hbm, 15, rfl⟩
abbrev main_v7 : Ref sig .tc := ⟨.hbm, 16, rfl⟩
abbrev main_call3_v0 : Ref sig .tc := ⟨.hbm, 17, rfl⟩
abbrev main_call3_v1_0 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_call4_cst : Ref sig .tc := ⟨.hbm, 47, rfl⟩
abbrev main_call4_v0 : Ref sig .tc := ⟨.hbm, 48, rfl⟩
abbrev main_call4_v1 : Ref sig .tc := ⟨.hbm, 49, rfl⟩
abbrev main_call4_cst_0 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_call4_v5 : Ref sig .tc := ⟨.hbm, 54, rfl⟩
abbrev main_call4_v6 : Ref sig .tc := ⟨.hbm, 55, rfl⟩
abbrev main_call4_v7 : Ref sig .tc := ⟨.hbm, 56, rfl⟩
abbrev main_call4_cst_1 : Ref sig .tc := ⟨.hbm, 57, rfl⟩
abbrev main_call4_v8 : Ref sig .tc := ⟨.hbm, 58, rfl⟩
abbrev main_call4_cst_2 : Ref sig .tc := ⟨.hbm, 59, rfl⟩
abbrev main_call4_v9 : Ref sig .tc := ⟨.hbm, 60, rfl⟩
abbrev main_call4_v10 : Ref sig .tc := ⟨.hbm, 61, rfl⟩
abbrev main_call4_v11 : Ref sig .tc := ⟨.hbm, 62, rfl⟩
abbrev main_call4_cst_3 : Ref sig .tc := ⟨.hbm, 63, rfl⟩
abbrev main_call4_v12 : Ref sig .tc := ⟨.hbm, 64, rfl⟩
abbrev main_call4_cst_4 : Ref sig .tc := ⟨.hbm, 65, rfl⟩
abbrev main_call4_call0_v0 : Ref sig .tc := ⟨.hbm, 66, rfl⟩
abbrev main_call4_call0_v1 : Ref sig .tc := ⟨.hbm, 67, rfl⟩
abbrev main_v28 : Ref sig .tc := ⟨.hbm, 68, rfl⟩
abbrev main_cst_7 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_8 : Ref sig .tc := ⟨.hbm, 73, rfl⟩
abbrev main_call5_cst : Ref sig .tc := ⟨.hbm, 74, rfl⟩
abbrev main_call5_v0 : Ref sig .tc := ⟨.hbm, 75, rfl⟩
abbrev main_call5_v1 : Ref sig .tc := ⟨.hbm, 76, rfl⟩
abbrev main_call5_cst_0 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_v6 : Ref sig .tc := ⟨.hbm, 82, rfl⟩
abbrev main_call5_v7 : Ref sig .tc := ⟨.hbm, 83, rfl⟩
abbrev main_call5_cst_1 : Ref sig .tc := ⟨.hbm, 84, rfl⟩
abbrev main_call5_v8 : Ref sig .tc := ⟨.hbm, 85, rfl⟩
abbrev main_call5_cst_2 : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_cst_3 : Ref sig .tc := ⟨.hbm, 90, rfl⟩
abbrev main_call5_v12 : Ref sig .tc := ⟨.hbm, 91, rfl⟩
abbrev main_call5_cst_4 : Ref sig .tc := ⟨.hbm, 92, rfl⟩
abbrev main_call5_call0_v0 : Ref sig .tc := ⟨.hbm, 93, rfl⟩
abbrev main_call5_call0_v1 : Ref sig .tc := ⟨.hbm, 94, rfl⟩
abbrev main_v32 : Ref sig .tc := ⟨.hbm, 95, rfl⟩
abbrev main_cst_9 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_10 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_11 : Ref sig .tc := ⟨.hbm, 105, rfl⟩
abbrev main_v40 : Ref sig .tc := ⟨.hbm, 106, rfl⟩
abbrev main_cst_12 : Ref sig .tc := ⟨.hbm, 107, rfl⟩
abbrev main_v41 : Ref sig .tc := ⟨.hbm, 108, rfl⟩
abbrev main_v42 : Ref sig .tc := ⟨.hbm, 109, rfl⟩

abbrev nD : Nat := 1
abbrev τ : Topo := Topo.v7x

variable {F : FTy → Type} [FloatOps F]
-- ==== Proof.Rules.lean ====
/-
  The launch as its theorem sees it, and the rules of the tile's register-level steps, stated over an array
  HELD AS A FUNCTION OF ITS POSITION: `Holds thr M g` says the tile owns the one-dimensional array `M` and its
  element at position `j` is `g j`. The rules are one per kind of step the kernel takes: a load and a store of
  sixteen consecutive elements, a gather, and a scatter (overwriting or adding).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Spearman

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The handshakes' rounds are the left factor; the transfers' counters are found in the right. -/
abbrev EH : Emb UH (MT nD τ sig (HIx 1) (Elt F) ℕ UU ℕ) := embL

/-! ## Arrays held as functions of a position -/

/-- Contents of a one-dimensional array as a function of the position. -/
abbrev arr {n : ℕ} {X : Type} (g : ℕ → X) : (⟨1, ![n]⟩ : Shape).Idx → X := fun j => g (j 0).val

/-- Lane `l` of a sixteen-lane vector. -/
def ln (l : ℕ) : S16.Idx := fun a => ⟨l % 16, by obtain rfl : a = 0 := Subsingleton.elim _ _; exact Nat.mod_lt _ (by decide)⟩

theorem ln_val {l : ℕ} (h : l < 16) : (ln l 0).val = l := Nat.mod_eq_of_lt h

theorem ln_eq (x : S16.Idx) : ln (x 0).val = x := by
  funext a
  obtain rfl : a = 0 := Subsingleton.elim _ _
  exact Fin.ext (Nat.mod_eq_of_lt (x 0).isLt)

theorem ofLane_eq (k : Fin 16) : Shape.ofLane (d := ![16]) k = ln k.val := by
  funext a
  obtain rfl : a = 0 := Subsingleton.elim _ _
  exact Fin.ext (Nat.mod_eq_of_lt k.isLt).symm

/-- The tile owns `M` and its element at position `j` is `g j`. -/
def Holds (thr : Thread nD τ) {n : ℕ} {e : EltTy} (M : Memref sig thr.2.kind .vmem ⟨1, ![n]⟩ e) (g : ℕ → Elt F e) : sProp 𝕄 :=
  iprop(∃ f, ⌜M.view.read (Elt F) f = arr g⌝ ∗ M.view.loc thr ↦[M.view.set]{fullShare} f)

section Rules

variable [FloatOps F] {defs : Defs nD τ sig (Elt F) Λ₀} (thr : Thread nD τ)
variable {n : ℕ} {e : EltTy} {M : Memref sig thr.2.kind .vmem ⟨1, ![n]⟩ e} {g : ℕ → Elt F e}
variable {α : Type} {Q : α → sProp (MT nD τ sig (HIx 1) (Elt F) ℕ UU ℕ)}

omit [FloatOps F] in
theorem holds_congr {g' : ℕ → Elt F e} (h : ∀ j, j < n → g j = g' j) : (Holds thr M g : sProp 𝕄) ⊢ Holds thr M g' := by
  unfold Holds
  iintro ⟨%f, %hf, H⟩
  iexists f; isplitr
  · ipureintro; rw [hf]; funext j; exact h _ (j 0).isLt
  · iexact H

omit [FloatOps F] in
/-- What a rectangle of sixteen consecutive elements from `o` reads. -/
theorem read_unit {f : M.view.ty.Contents (Elt F)} (hf : M.view.read (Elt F) f = arr g) {off : Fin 1 → ℕ} {o : ℕ} (ho : off 0 = o)
    (hin : ∀ a, off a + S16.size a ≤ (⟨1, ![n]⟩ : Shape).size a) :
    M.view.readAt (Elt F) (Rect.unit (s := ⟨1, ![n]⟩) off S16.size hin).toLoadRect f = fun x => g (o + (x 0).val) := by
  funext x
  rw [View.readAt_apply, hf]
  show g _ = g _
  congr 1
  rw [LoadRect.idx_apply]
  show off 0 + 1 * (x 0).val = _
  omega

theorem wp_load16 {off : Fin 1 → ℕ} (o : ℕ) (ho : off 0 = o)
    {hin : ∀ a, off a + S16.size a ≤ (⟨1, ![n]⟩ : Shape).size a}
    {hl : M.view.LoadsAt (Rect.unit (s := ⟨1, ![n]⟩) off S16.size hin).toLoadRect}
    {k : Vec F S16 e → Prog (TpuEff nD τ sig (Elt F) Λ₀ thr.2) α} :
    (Holds thr M g : sProp 𝕄)
      ⊢ iprop((Holds thr M g -∗ wp frame (wpE defs 𝒱₀ thr none) Set.univ (k fun x => g (o + (x 0).val)) Q)
        -∗ wp frame (wpE defs 𝒱₀ thr none) Set.univ (.op (.load M (Rect.unit (s := ⟨1, ![n]⟩) off S16.size hin).toLoadRect hl) k) Q) := by
  unfold Holds
  iintro ⟨%f, %hf, H⟩ Hk
  iapply (wp_load 𝒱₀ thr none Set.univ (m := M) (S := M.view.set) (M.view.setOn_subset_set _)) $$ H
  iintro H
  rw [read_unit thr hf ho]
  iapply Hk
  iexists f; isplitr
  · ipureintro; exact hf
  · iexact H

theorem wp_store16 {off : Fin 1 → ℕ} (o : ℕ) (ho : off 0 = o)
    {hin : ∀ a, off a + S16.size a ≤ (⟨1, ![n]⟩ : Shape).size a} {w : S16.Idx → Elt F e}
    {hx : (M.access (Rect.unit (s := ⟨1, ![n]⟩) off S16.size hin)).Stores Finset.univ}
    {hm : (Finset.univ : Finset S16.Idx) = Finset.univ ∨ ∀ a, (Rect.unit (s := ⟨1, ![n]⟩) off S16.size hin).stride a = 1}
    {k : PUnit → Prog (TpuEff nD τ sig (Elt F) Λ₀ thr.2) α} :
    (Holds thr M g : sProp 𝕄)
      ⊢ iprop((Holds thr M (fun j => if o ≤ j ∧ j < o + 16 then w (ln (j - o)) else g j)
            -∗ wp frame (wpE defs 𝒱₀ thr none) Set.univ (k ⟨⟩) Q)
        -∗ wp frame (wpE defs 𝒱₀ thr none) Set.univ (.op (.store M (Rect.unit (s := ⟨1, ![n]⟩) off S16.size hin) w Finset.univ hx hm) k) Q) := by
  unfold Holds
  iintro ⟨%f, %hf, H⟩ Hk
  iapply (wp_store 𝒱₀ thr none Set.univ (m := M) (r := Rect.unit (s := ⟨1, ![n]⟩) off S16.size hin) (Mk := Finset.univ) (S := M.view.set) (f := f)
    (M.view.set_slice_subset _)) $$ H
  iintro H
  iapply Hk
  iexists ((M.access (Rect.unit (s := ⟨1, ![n]⟩) off S16.size hin)).write (Elt F) f w Finset.univ)
  isplitr
  · ipureintro
    funext y
    by_cases hy : o ≤ (y 0).val ∧ (y 0).val < o + 16
    · have he : y = (Rect.unit (s := ⟨1, ![n]⟩) off S16.size hin).emb (ln ((y 0).val - o)) := by
        funext a; apply Fin.ext
        rw [Rect.emb_apply]
        obtain rfl : a = 0 := Subsingleton.elim _ _
        show (y 0).val = off 0 + 1 * (((y 0).val - o) % 16)
        rw [Nat.mod_eq_of_lt (by omega)]; omega
      conv_lhs => rw [he]
      rw [View.read_slice_write_emb _ _ _ (Finset.mem_univ _)]
      show _ = if _ then _ else _
      rw [if_pos hy]
    · rw [View.read_slice_write_of_not_mem, hf]
      · show _ = if _ then _ else _
        rw [if_neg hy]
      · intro hm
        obtain ⟨x, -, rfl⟩ := Finset.mem_map.mp hm
        apply hy
        have hx : (((Rect.unit (s := ⟨1, ![n]⟩) off S16.size hin).emb x) 0).val = off 0 + 1 * (x 0).val := by rw [Rect.emb_apply]; rfl
        have h16 : (x 0).val < 16 := (x 0).isLt
        omega
  · iexact H

theorem wp_gather {v : IVec S16 32} {h : ∀ (a : Fin 1) x, ((![v] : Fin 1 → IVec S16 32) a x).toNat < (⟨1, ![n]⟩ : Shape).size a} {hl : M.view.Loads}
    {k : Vec F S16 e → Prog (TpuEff nD τ sig (Elt F) Λ₀ thr.2) α} :
    (Holds thr M g : sProp 𝕄)
      ⊢ iprop((Holds thr M g -∗ wp frame (wpE defs 𝒱₀ thr none) Set.univ (k fun x => g (v x).toNat) Q)
        -∗ wp frame (wpE defs 𝒱₀ thr none) Set.univ (SparseCore.vectorLoadIdx M (![v] : Fin 1 → IVec S16 32) h hl >>= k) Q) := by
  unfold Holds
  iintro ⟨%f, %hf, H⟩ Hk
  iapply (SparseCore.wp_vectorLoadIdx 𝒱₀ thr none Set.univ (base := M) (S := M.view.set) (M.view.set_slice_subset _)) $$ H
  iintro H
  rw [show (M.access (.whole ⟨1, ![n]⟩)).read (Elt F) f = arr g from by
    rw [← hf]; funext y
    exact congrArg (M.view.read (Elt F) f) (Rect.emb_whole_apply (s := ⟨1, ![n]⟩) y)]
  iapply Hk
  iexists f; isplitr
  · ipureintro; exact hf
  · iexact H

/-- Where a scatter's lanes land, as a function of the position. -/
def scat (add : Bool) (v : IVec S16 32) (w : Vec F S16 e) (g : ℕ → Elt F e) : ℕ → Elt F e :=
  (List.finRange 16).foldl (fun g k => fun j => if j = (v (ln k.val)).toNat then (if add then Elt.idxAdd e (g j) (w (ln k.val)) else w (ln k.val)) else g j) g

theorem foldl_along {β γ ι : Type} (φ : β → γ) (f : γ → ι → γ) (f' : β → ι → β) (h : ∀ b k, f (φ b) k = φ (f' b k)) (L : List ι) (b : β) :
    L.foldl f (φ b) = φ (L.foldl f' b) := by
  induction L generalizing b with
  | nil => rfl
  | cons k L ih => rw [List.foldl_cons, List.foldl_cons, h, ih]

theorem storeIdx_arr {v : IVec S16 32} {w : Vec F S16 e} {add : Bool}
    {h : ∀ (a : Fin 1) x, ((![v] : Fin 1 → IVec S16 32) a x).toNat < (⟨1, ![n]⟩ : Shape).size a} :
    storeIdx (s := ⟨1, ![n]⟩) (d := ![16]) (arr g) (![v] : Fin 1 → IVec S16 32) w (fun _ => 1#1) add h = arr (scat add v w g) := by
  unfold storeIdx scat
  exact foldl_along (ι := Fin 16) (arr (n := n) (X := Elt F e)) _ _
    (fun g k => by
      refine Eq.trans (if_pos (show (1#1 : BitVec 1) = 1 from rfl)) ?_
      rw [ofLane_eq]
      funext j
      dsimp only
      have hj : (∀ a, (j a).val = (idxAt (s := ⟨1, ![n]⟩) (![v] : Fin 1 → IVec S16 32) h (ln k.val) a).val) ↔ (j 0).val = (v (ln k.val)).toNat :=
        ⟨fun hh => hh 0, fun hh a => by obtain rfl : a = 0 := Subsingleton.elim _ _; exact hh⟩
      by_cases hc : (j 0).val = (v (ln k.val)).toNat
      · refine Eq.trans (if_pos (hj.mpr hc)) (Eq.trans ?_ (if_pos hc).symm)
        rw [hc]; rfl
      · exact Eq.trans (if_neg (fun hh => hc (hj.mp hh))) (if_neg hc).symm) (List.finRange 16) g

theorem wp_scatter {v : IVec S16 32} {w : Vec F S16 e} {add : Bool}
    {h : ∀ (a : Fin 1) x, ((![v] : Fin 1 → IVec S16 32) a x).toNat < (⟨1, ![n]⟩ : Shape).size a}
    {hs : (M.access (.whole ⟨1, ![n]⟩)).Stores Finset.univ} {k : PUnit → Prog (TpuEff nD τ sig (Elt F) Λ₀ thr.2) α} :
    (Holds thr M g : sProp 𝕄)
      ⊢ iprop((Holds thr M (scat add v w g) -∗ wp frame (wpE defs 𝒱₀ thr none) Set.univ (k ⟨⟩) Q)
        -∗ wp frame (wpE defs 𝒱₀ thr none) Set.univ
          (SparseCore.vectorStoreIdx (d := ![16]) M (![v] : Fin 1 → IVec S16 32) w (fun _ => 1#1) add h hs >>= k) Q) := by
  unfold Holds
  iintro ⟨%f, %hf, H⟩ Hk
  have hset : (M.access (.whole ⟨1, ![n]⟩)).set = M.view.set := by
    refine (View.set_slice M.view (.whole ⟨1, ![n]⟩)).trans ?_
    rw [Rect.set_whole]; rfl
  have hread : (M.access (.whole ⟨1, ![n]⟩)).read (Elt F) f = arr g := by
    rw [← hf]; funext y
    exact congrArg (M.view.read (Elt F) f) (Rect.emb_whole_apply (s := ⟨1, ![n]⟩) y)
  iapply (SparseCore.wp_vectorStoreIdx 𝒱₀ thr none Set.univ (base := M) (f := f)) $$ [H]
  · rw [hset]; iexact H
  iintro H
  iapply Hk
  rw [hset, hread]
  iexists ((M.access (.whole ⟨1, ![n]⟩)).write (Elt F) f (storeIdx (s := ⟨1, ![n]⟩) (d := ![16]) (arr g) (![v] : Fin 1 → IVec S16 32) w (fun _ => 1#1) add h) Finset.univ)
  isplitr
  · ipureintro
    refine Eq.trans ?_ (storeIdx_arr (h := h))
    funext y
    refine Eq.trans (congrArg _ (Rect.emb_whole_apply (s := ⟨1, ![n]⟩) y).symm) ?_
    exact View.read_slice_write_emb _ _ _ (Finset.mem_univ _)
  · iexact H

end Rules

/-! ## What a scatter leaves, position by position -/

theorem scat_ones [FloatOps F] (v : IVec S16 32) (g : ℕ → Elt F .i32) (j : ℕ) :
    scat (F := F) (e := .i32) true v (fun _ => 1#32) g j
      = (g j : BitVec 32) + BitVec.ofNat 32 ((Finset.range 16).filter fun l => (v (ln l)).toNat = j).card := by
  have hL : ∀ (L : List (Fin 16)) (g : ℕ → BitVec 32),
      L.foldl (fun (g : ℕ → BitVec 32) k => fun j => if j = (v (ln k.val)).toNat then g j + 1#32 else g j) g j
        = g j + BitVec.ofNat 32 (L.countP fun k => (v (ln k.val)).toNat = j) := by
    intro L
    induction L with
    | nil => intro g; simp
    | cons k L ih =>
      intro g
      rw [List.foldl_cons, ih, List.countP_cons]
      by_cases hc : (v (ln k.val)).toNat = j
      · rw [if_pos hc.symm]; simp only [hc, decide_true, if_true]
        rw [BitVec.ofNat_add, BitVec.add_assoc, BitVec.add_comm (1#32)]
      · rw [if_neg (fun h => hc h.symm)]; simp only [hc, decide_false]; rfl
  have hc : (List.finRange 16).countP (fun k => (v (ln k.val)).toNat = j) = ((Finset.range 16).filter fun l => (v (ln l)).toNat = j).card := by
    have h1 : ((Finset.range 16).filter fun l => (v (ln l)).toNat = j).card = ((Finset.univ : Finset (Fin 16)).filter fun k => (v (ln k.val)).toNat = j).card := by
      rw [← Nat.Iio_eq_range, ← Fin.map_valEmbedding_univ, Finset.filter_map, Finset.card_map]; rfl
    rw [h1, List.countP_eq_length_filter]
    rfl
  rw [← hc]
  exact hL _ _

theorem scat_set [FloatOps F] {e : EltTy} (v : IVec S16 32) (w : Vec F S16 e) (g : ℕ → Elt F e)
    (hinj : ∀ l l', l < 16 → l' < 16 → (v (ln l)).toNat = (v (ln l')).toNat → l = l') :
    (∀ l, l < 16 → scat (F := F) false v w g (v (ln l)).toNat = w (ln l))
      ∧ ∀ j, (∀ l, l < 16 → (v (ln l)).toNat ≠ j) → scat (F := F) false v w g j = g j := by
  have hL : ∀ (L : List (Fin 16)) (g : ℕ → Elt F e) (j : ℕ), (∀ k ∈ L, (v (ln k.val)).toNat ≠ j) →
      L.foldl (fun g k => fun j => if j = (v (ln k.val)).toNat then (if false then Elt.idxAdd e (g j) (w (ln k.val)) else w (ln k.val)) else g j) g j = g j := by
    intro L
    induction L with
    | nil => intro g j _; rfl
    | cons k L ih =>
      intro g j h
      rw [List.foldl_cons, ih _ _ (fun k' hk' => h k' (List.mem_cons_of_mem _ hk')), if_neg (fun e => h k List.mem_cons_self e.symm)]
  have hS : ∀ (L : List (Fin 16)), L.Nodup → ∀ (g : ℕ → Elt F e) (k : Fin 16), k ∈ L →
      L.foldl (fun g k => fun j => if j = (v (ln k.val)).toNat then (if false then Elt.idxAdd e (g j) (w (ln k.val)) else w (ln k.val)) else g j) g
        (v (ln k.val)).toNat = w (ln k.val) := by
    intro L
    induction L with
    | nil => intro _ g k hk; nomatch hk
    | cons k' L ih =>
      intro hn g k hk
      rw [List.foldl_cons]
      rcases List.mem_cons.mp hk with rfl | hk
      · rw [hL _ _ _ fun k' hk' e => (List.nodup_cons.mp hn).1 (Fin.ext (hinj _ _ k'.isLt k.isLt e) ▸ hk')]
        rw [if_pos rfl]; rfl
      · exact ih (List.nodup_cons.mp hn).2 _ k hk
  exact ⟨fun l hl => hS _ (List.nodup_finRange 16) g ⟨l, hl⟩ (List.mem_finRange _), fun j h => hL _ g j fun k _ => h k.val k.isLt⟩

end Cert.Proof.Spearman

end
-- ==== Proof.Copies.lean ====
/-
  The tile's copies: a row of a two-dimensional array in the shared memory fetched into a one-dimensional array of
  the tile's own, whose element at position `j` is then the row's element `j`; and a sixteen-lane array of the
  tile's written back as a row. Each copy is waited for at once, so no schedule is needed.
-/
module

public import proofs.«01_k».proof.Proof.Rules

@[expose] public section

noncomputable section

namespace Cert.Proof.Spearman

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What the tile keeps about its waits: none is still owed to a schedule. -/
def Owed (thr : Thread nD τ) (O : CellTallies nD τ sig (HIx 1)) (W : Waits sig (HIx 1)) : sProp (MT nD τ sig (HIx 1) (Elt F) ℕ UU ℕ) :=
  iprop(∃ W', ⌜∀ p ∈ W', p ∈ W ∨ p.2 = none⌝ ∗ owes thr O W')

/-- A view written once, whole, reads what was written. -/
theorem read_whole {κ : Kind} {sp : Space} {s : Shape} {e : EltTy} (v : View sig κ sp s e) (f : v.ty.Contents (Elt F))
    (w : (Rect.whole s).shape.Idx → Elt F e) (x : s.Idx) :
    v.read (Elt F) (v.writes (Elt F) f [⟨Rect.whole s, w⟩]) x = w x :=
  (congrArg (v.read (Elt F) (v.writes (Elt F) f [⟨Rect.whole s, w⟩]))
    (show x = (Rect.whole s).emb x from funext fun a => Fin.ext (by show (x a).val = 0 + 1 * (x a).val; omega))).trans
    (View.read_writes_cons_emb v f (Rect.whole s) w [] x)

/-- Row `r`, position `x` of a 128 by 16384 array. -/
def at2 (r x : ℕ) : S128x16384.Idx := fun
  | 0 => ⟨r % 128, Nat.mod_lt _ (by decide)⟩
  | 1 => ⟨x % 16384, Nat.mod_lt _ (by decide)⟩
  | ⟨_ + 2, h⟩ => absurd h (Nat.not_lt.2 (Nat.le_add_left _ _))

/-- The slice holding row `r`, seen as one-dimensional, reads the row. -/
theorem row_read (X : Memref sig .scVector .hbm S128x16384 .i32) {off : Fin 2 → ℕ} {inb : ∀ a, off a + S1x16384.size a ≤ S128x16384.size a}
    (r : ℕ) (hoff : off = ![r, 0]) (f : X.view.ty.Contents (Elt F)) :
    ((X.slice (Rect.unit (s := S128x16384) off S1x16384.size inb) (fun _ => rfl)).squeeze S16384 squeezes_S1x16384_S16384).view.read (Elt F) f
      = arr fun x => X.view.read (Elt F) f (at2 r x) := by
  subst hoff
  funext x
  have hr : r < 128 := by have := inb 0; exact this
  have e : Shape.reshapeEquiv squeezes_S1x16384_S16384.numel_eq x = ((fun | 0 => ⟨0, Nat.one_pos⟩ | 1 => x 0 | ⟨_ + 2, h⟩ => absurd h (Nat.not_lt.2 (Nat.le_add_left _ _))) : S1x16384.Idx) :=
    Shape.reshapeEquiv_eq_of_rowMajor _ (by
      rw [Shape.rowMajor_val_two, Shape.rowMajor_val_one]; show 0 * _ + (x 0).val = _; omega)
  show X.view.read (Elt F) f ((Rect.unit (s := S128x16384) ![r, 0] S1x16384.size inb).emb (Shape.reshapeEquiv squeezes_S1x16384_S16384.numel_eq x)) = _
  rw [e]
  refine congrArg (X.view.read (Elt F) f) (funext fun | 0 => Fin.ext ?_ | 1 => Fin.ext ?_)
  · show r + 1 * 0 = r % 128; omega
  · have : (x 0).val < 16384 := (x 0).isLt
    show 0 + 1 * (x 0).val = (x 0).val % 16384
    rw [Nat.mod_eq_of_lt this]; omega

variable [FloatOps F] {defs : Defs nD τ sig (Elt F) Λ₀} (d : Dev nD) (c : Fin τ.nSC) (j : Fin τ.nSub)
variable {α : Type} {Q : α → sProp (MT nD τ sig (HIx 1) (Elt F) ℕ UU ℕ)}

theorem wp_fetch (X : Memref sig .scVector .hbm S128x16384 .i32) (A : Memref sig .scVector .vmem S16384 .i32) (sem : DmaSem sig) {q : PosShare TreeShare}
    (O : CellTallies nD τ sig (HIx 1)) (W : Waits sig (HIx 1))
    {off : Fin 2 → ℕ} {inb : ∀ a, off a + S1x16384.size a ≤ S128x16384.size a} {h1 h2 h3 h4 h5}
    (r : ℕ) (hoff : off = ![r, 0]) {f : Buf (Elt F) (X.view.loc (V d c j))}
    {k : PUnit → Prog (TpuEff nD τ sig (Elt F) Λ₀ (.scVector c j)) α} :
    iprop(Transfers.MayWaits (V d c j) (none : HIx 1) O ∗ (X.view.loc (V d c j) ↦[Finset.univ]{q} f) ∗ (∃ g, Holds (F := F) (V d c j) A g)
        ∗ semVal ((V d c j), SemLoc.dma sem) 0 ∗ Owed (F := F) (V d c j) O W)
      ⊢ iprop(((X.view.loc (V d c j) ↦[Finset.univ]{q} f)
            -∗ Holds (F := F) (V d c j) A (fun x => X.view.read (Elt F) f (at2 r x))
            -∗ semVal ((V d c j), SemLoc.dma sem) 0 -∗ Owed (F := F) (V d c j) O W
            -∗ wp frame (wpE defs 𝒱₀ (V d c j) none) Set.univ (k ⟨⟩) Q)
        -∗ wp frame (wpE defs 𝒱₀ (V d c j) none) Set.univ
            (.op (.enqueueDma ((X.slice (Rect.unit (s := S128x16384) off S1x16384.size inb) (fun _ => rfl)).squeeze S16384 squeezes_S1x16384_S16384) (.here A) (.dma sem) h1 h2 h3)
              fun _ => .op (.waitDma2 sem ((X.slice (Rect.unit (s := S128x16384) off S1x16384.size inb) (fun _ => rfl)).squeeze S16384 squeezes_S1x16384_S16384) A h4 h5) k) Q) := by
  unfold Holds Owed
  iintro ⟨#Hmw, Hx, ⟨%g, %fa, %ha, Ha⟩, Hsem, ⟨%W', %hW', HO⟩⟩ Hk
  sl_exec (disch := exact View.amount_pos _ _ (show 0 < S16384.numel by decide))
  iapply Hk $$ [Hx] [Ha] [Hsem] [HO]
  · iexact Hx
  · iexists _; isplitr
    rotate_left
    · iexact Ha
    · ipureintro
      rw [← row_read X r hoff f]
      funext x
      exact read_whole A.view fa _ x
  · iexact Hsem
  · iexists _; isplitr
    rotate_left
    · iexact HO
    · ipureintro
      intro p hp
      rcases Finset.mem_insert.1 hp with rfl | hp
      · exact Or.inr rfl
      · exact hW' p hp

theorem wp_out (X : Memref sig .scVector .hbm S32x16 .f32) (A : Memref sig .scVector .vmem S16 .f32) (sem : DmaSem sig)
    (O : CellTallies nD τ sig (HIx 1)) (W : Waits sig (HIx 1))
    {off : Fin 2 → ℕ} {inb : ∀ a, off a + S1x16.size a ≤ S32x16.size a} {h1 h2 h3 h4 h5}
    (g : ℕ → F .f32) {f : Buf (Elt F) (X.view.loc (V d c j))}
    {k : PUnit → Prog (TpuEff nD τ sig (Elt F) Λ₀ (.scVector c j)) α} :
    iprop(Transfers.MayWaits (V d c j) (none : HIx 1) O
        ∗ (((X.slice (Rect.unit (s := S32x16) off S1x16.size inb) (fun _ => rfl)).squeeze S16 squeezes_S1x16_S16).view.loc (V d c j)
            ↦[((X.slice (Rect.unit (s := S32x16) off S1x16.size inb) (fun _ => rfl)).squeeze S16 squeezes_S1x16_S16).view.set]{fullShare} f)
        ∗ Holds (F := F) (V d c j) A g
        ∗ semVal ((V d c j), SemLoc.dma sem) 0 ∗ Owed (F := F) (V d c j) O W)
      ⊢ iprop((∀ f', ⌜((X.slice (Rect.unit (s := S32x16) off S1x16.size inb) (fun _ => rfl)).squeeze S16 squeezes_S1x16_S16).view.read (Elt F) f' = arr g⌝
              -∗ (((X.slice (Rect.unit (s := S32x16) off S1x16.size inb) (fun _ => rfl)).squeeze S16 squeezes_S1x16_S16).view.loc (V d c j)
            ↦[((X.slice (Rect.unit (s := S32x16) off S1x16.size inb) (fun _ => rfl)).squeeze S16 squeezes_S1x16_S16).view.set]{fullShare} f')
            -∗ Holds (F := F) (V d c j) A g
            -∗ semVal ((V d c j), SemLoc.dma sem) 0 -∗ Owed (F := F) (V d c j) O W
            -∗ wp frame (wpE defs 𝒱₀ (V d c j) none) Set.univ (k ⟨⟩) Q)
        -∗ wp frame (wpE defs 𝒱₀ (V d c j) none) Set.univ
            (.op (.enqueueDma A (.here ((X.slice (Rect.unit (s := S32x16) off S1x16.size inb) (fun _ => rfl)).squeeze S16 squeezes_S1x16_S16)) (.dma sem) h1 h2 h3)
              fun _ => .op (.waitDma2 sem A ((X.slice (Rect.unit (s := S32x16) off S1x16.size inb) (fun _ => rfl)).squeeze S16 squeezes_S1x16_S16) h4 h5) k) Q) := by
  unfold Holds Owed
  iintro ⟨#Hmw, Hx, ⟨%fa, %ha, Ha⟩, Hsem, ⟨%W', %hW', HO⟩⟩ Hk
  sl_exec (disch := exact View.amount_pos _ _ (show 0 < S16.numel by decide))
  iapply Hk $$ [] [Hx] [Ha] [Hsem] [HO]
  rotate_left
  · iexact Hx
  · iexists fa; isplitr
    · ipureintro; exact ha
    · iexact Ha
  · iexact Hsem
  · iexists _; isplitr
    rotate_left
    · iexact HO
    · ipureintro
      intro p hp
      rcases Finset.mem_insert.1 hp with rfl | hp
      · exact Or.inr rfl
      · exact hW' p hp
  · ipureintro
    rw [← ha]
    funext x
    exact read_whole ((X.slice (Rect.unit (s := S32x16) off S1x16.size inb) (fun _ => rfl)).squeeze S16 squeezes_S1x16_S16).view f _ x

end Cert.Proof.Spearman
-- ==== Proof.Order.lean ====
/-
  Ranks under a strict total order of the natural numbers, and what one stable counting pass does to them.
  A least-significant-digit radix sort refines an order digit by digit: after a pass the elements stand at
  their ranks under the order "smaller digit first, ties by the order before". `rk n lt x` is the number of
  elements of `range n` standing before `x`; `rk_refine` says the place a counting pass gives an element
  (elements of smaller digit, and earlier elements of the same digit) is its rank under the refined order.
-/
module

public import Mathlib.Data.Finset.Card
public import Mathlib.Data.Finset.Range
public import Mathlib.Order.Interval.Finset.Nat
public import Mathlib.Tactic.Ring
public import Mathlib.Algebra.BigOperators.Group.Finset.Basic

@[expose] public section

noncomputable section

namespace Cert.Proof.Spearman

open scoped Classical

/-- A strict total order, as three facts. -/
structure Tot (lt : ℕ → ℕ → Prop) : Prop where
  irrefl : ∀ x, ¬ lt x x
  trans : ∀ x y z, lt x y → lt y z → lt x z
  total : ∀ x y, x ≠ y → lt x y ∨ lt y x

/-- The order refined by a digit: smaller digit first, ties as before. -/
def refine (d : ℕ → ℕ) (lt : ℕ → ℕ → Prop) (y x : ℕ) : Prop := d y < d x ∨ (d y = d x ∧ lt y x)

/-- The rank of `x` among the first `n` numbers. -/
def rk (n : ℕ) (lt : ℕ → ℕ → Prop) (x : ℕ) : ℕ := ((Finset.range n).filter fun y => lt y x).card

theorem tot_lt : Tot (fun a b : ℕ => a < b) :=
  ⟨fun x => lt_irrefl x, fun _ _ _ => lt_trans, fun _ _ h => lt_or_gt_of_ne h⟩

theorem Tot.refine {lt : ℕ → ℕ → Prop} (h : Tot lt) (d : ℕ → ℕ) : Tot (refine d lt) where
  irrefl x := by
    rintro (h' | ⟨_, h'⟩)
    · exact lt_irrefl _ h'
    · exact h.irrefl _ h'
  trans x y z := by
    rintro (a | ⟨a, a'⟩) (b | ⟨b, b'⟩)
    · exact .inl (a.trans b)
    · exact .inl (b ▸ a)
    · exact .inl (a ▸ b)
    · exact .inr ⟨a.trans b, h.trans _ _ _ a' b'⟩
  total x y hxy := by
    rcases lt_trichotomy (d x) (d y) with a | a | a
    · exact .inl (.inl a)
    · rcases h.total x y hxy with b | b
      · exact .inl (.inr ⟨a, b⟩)
      · exact .inr (.inr ⟨a.symm, b⟩)
    · exact .inr (.inl a)

section Rank

variable {n : ℕ} {lt : ℕ → ℕ → Prop} (h : Tot lt)

include h

theorem rk_lt_of_lt {x y : ℕ} (hx : x < n) (hxy : lt x y) : rk n lt x < rk n lt y := by
  apply Finset.card_lt_card
  refine ⟨fun z hz => ?_, fun hs => ?_⟩
  · rw [Finset.mem_filter] at hz ⊢
    exact ⟨hz.1, h.trans _ _ _ hz.2 hxy⟩
  · have := hs (Finset.mem_filter.mpr ⟨Finset.mem_range.mpr hx, hxy⟩)
    exact h.irrefl _ (Finset.mem_filter.mp this).2

theorem rk_lt_iff {x y : ℕ} (hx : x < n) (hy : y < n) : rk n lt x < rk n lt y ↔ lt x y := by
  refine ⟨fun hr => ?_, rk_lt_of_lt h hx⟩
  by_cases e : x = y
  · subst e; exact absurd hr (lt_irrefl _)
  · rcases h.total x y e with a | a
    · exact a
    · exact absurd hr (lt_asymm (rk_lt_of_lt h hy a))

theorem rk_lt_n {x : ℕ} (hx : x < n) : rk n lt x < n := by
  have : rk n lt x < (Finset.range n).card := by
    apply Finset.card_lt_card
    refine ⟨Finset.filter_subset _ _, fun hs => ?_⟩
    exact h.irrefl x (Finset.mem_filter.mp (hs (Finset.mem_range.mpr hx))).2
  rwa [Finset.card_range] at this

theorem rk_inj {x y : ℕ} (hx : x < n) (hy : y < n) (e : rk n lt x = rk n lt y) : x = y := by
  by_contra hne
  rcases h.total x y hne with a | a
  · exact absurd e (ne_of_lt (rk_lt_of_lt h hx a))
  · exact absurd e (ne_of_gt (rk_lt_of_lt h hy a))

theorem rk_image : (Finset.range n).image (rk n lt) = Finset.range n := by
  apply Finset.eq_of_subset_of_card_le
  · intro i hi
    obtain ⟨x, hx, rfl⟩ := Finset.mem_image.mp hi
    exact Finset.mem_range.mpr (rk_lt_n h (Finset.mem_range.mp hx))
  · rw [Finset.card_image_of_injOn fun x hx y hy e => rk_inj h (Finset.mem_range.mp hx) (Finset.mem_range.mp hy) e]

theorem rk_surj {i : ℕ} (hi : i < n) : ∃ x, x < n ∧ rk n lt x = i := by
  have : i ∈ (Finset.range n).image (rk n lt) := by rw [rk_image h]; exact Finset.mem_range.mpr hi
  obtain ⟨x, hx, e⟩ := Finset.mem_image.mp this
  exact ⟨x, Finset.mem_range.mp hx, e⟩

/-- Counting places is counting the elements standing there. -/
theorem card_rk (p : ℕ → Prop) [DecidablePred p] [DecidablePred fun x => p (rk n lt x)] :
    ((Finset.range n).filter p).card = ((Finset.range n).filter fun x => p (rk n lt x)).card := by
  symm
  refine Finset.card_bij (fun x _ => rk n lt x) ?_ ?_ ?_
  · intro x hx
    rw [Finset.mem_filter, Finset.mem_range] at hx ⊢
    exact ⟨rk_lt_n h hx.1, hx.2⟩
  · intro x hx y hy e
    exact rk_inj h (Finset.mem_range.mp (Finset.mem_filter.mp hx).1) (Finset.mem_range.mp (Finset.mem_filter.mp hy).1) e
  · intro i hi
    rw [Finset.mem_filter, Finset.mem_range] at hi
    obtain ⟨x, hx, rfl⟩ := rk_surj h hi.1
    exact ⟨x, Finset.mem_filter.mpr ⟨Finset.mem_range.mpr hx, hi.2⟩, rfl⟩

/-- A sum over places is the sum over the elements standing there. -/
theorem sum_rk {M : Type} [AddCommMonoid M] (f : ℕ → M) :
    ∑ i ∈ Finset.range n, f i = ∑ x ∈ Finset.range n, f (rk n lt x) := by
  conv_lhs => rw [← rk_image h]
  rw [Finset.sum_image fun x hx y hy e => rk_inj h (Finset.mem_range.mp hx) (Finset.mem_range.mp hy) e]

end Rank

/-- Under the plain order an element's rank is itself. -/
theorem rk_id {n x : ℕ} (hx : x ≤ n) : rk n (fun a b => a < b) x = x := by
  unfold rk
  conv_rhs => rw [← Finset.card_range x]
  congr 1; ext y; simp only [Finset.mem_filter, Finset.mem_range]; omega

/-- Elements of the first `m` whose bin is `b`. -/
def cnt (e : ℕ → ℕ) (m b : ℕ) : ℕ := ((Finset.range m).filter fun x => e x = b).card

/-- Elements of the first `m` whose bin is below `b`. -/
def below (e : ℕ → ℕ) (m b : ℕ) : ℕ := ((Finset.range m).filter fun x => e x < b).card

/-- One counting pass: the place given to the element at place `rk n lt x` is its rank under the refined order. -/
theorem rk_refine {n : ℕ} {lt : ℕ → ℕ → Prop} (h : Tot lt) {d e : ℕ → ℕ} (he : ∀ x, x < n → e (rk n lt x) = d x)
    {x : ℕ} (hx : x < n) :
    below e n (e (rk n lt x)) + cnt e (rk n lt x) (e (rk n lt x)) = rk n (refine d lt) x := by
  have hc : cnt e (rk n lt x) (e (rk n lt x)) = ((Finset.range n).filter fun i => i < rk n lt x ∧ e i = e (rk n lt x)).card := by
    unfold cnt
    congr 1; ext i
    have := rk_lt_n h hx
    simp only [Finset.mem_filter, Finset.mem_range]
    constructor
    · rintro ⟨a, b⟩; exact ⟨by omega, a, b⟩
    · rintro ⟨_, a, b⟩; exact ⟨a, b⟩
  rw [hc]
  unfold below
  rw [card_rk h, card_rk h (fun i => i < rk n lt x ∧ e i = e (rk n lt x))]
  unfold rk refine
  rw [← Finset.card_union_of_disjoint]
  · congr 1; ext y
    simp only [Finset.mem_union, Finset.mem_filter, Finset.mem_range]
    constructor
    · rintro (⟨hy, a⟩ | ⟨hy, a, b⟩)
      · refine ⟨hy, .inl ?_⟩
        have := he y hy; have := he x hx; unfold rk at *; omega
      · refine ⟨hy, .inr ⟨?_, (rk_lt_iff h hy hx).mp a⟩⟩
        have := he y hy; have := he x hx; unfold rk at *; omega
    · rintro ⟨hy, a | ⟨a, b⟩⟩
      · refine .inl ⟨hy, ?_⟩
        have := he y hy; have := he x hx; unfold rk at *; omega
      · refine .inr ⟨hy, (rk_lt_iff h hy hx).mpr b, ?_⟩
        have := he y hy; have := he x hx; unfold rk at *; omega
  · rw [Finset.disjoint_left]
    intro y hy hy'
    have a := (Finset.mem_filter.mp hy).2
    have b := (Finset.mem_filter.mp hy').2.2
    omega

/-- The number of elements with bin below `b` does not depend on the places they stand at. -/
theorem below_rk {n : ℕ} {lt : ℕ → ℕ → Prop} (h : Tot lt) {d e : ℕ → ℕ} (he : ∀ x, x < n → e (rk n lt x) = d x) (b : ℕ) :
    below e n b = below d n b := by
  unfold below
  rw [card_rk h]
  congr 1; ext x
  simp only [Finset.mem_filter, Finset.mem_range]
  constructor
  · rintro ⟨hx, a⟩; exact ⟨hx, he x hx ▸ a⟩
  · rintro ⟨hx, a⟩; exact ⟨hx, (he x hx).symm ▸ a⟩

/-- The element standing at place `i`. -/
def unrk (n : ℕ) (lt : ℕ → ℕ → Prop) (i : ℕ) : ℕ := if hx : ∃ x, x < n ∧ rk n lt x = i then hx.choose else 0

theorem unrk_spec {n : ℕ} {lt : ℕ → ℕ → Prop} (h : Tot lt) {i : ℕ} (hi : i < n) :
    unrk n lt i < n ∧ rk n lt (unrk n lt i) = i := by
  unfold unrk
  rw [dif_pos (rk_surj h hi)]
  exact (rk_surj h hi).choose_spec

theorem unrk_rk {n : ℕ} {lt : ℕ → ℕ → Prop} (h : Tot lt) {x : ℕ} (hx : x < n) : unrk n lt (rk n lt x) = x := by
  obtain ⟨a, b⟩ := unrk_spec h (rk_lt_n h hx)
  exact rk_inj h a hx b

theorem cnt_zero (e : ℕ → ℕ) (b : ℕ) : cnt e 0 b = 0 := by simp [cnt]

/-- Counting sixteen more elements. -/
theorem cnt_add (e : ℕ → ℕ) (m k b : ℕ) :
    cnt e (m + k) b = cnt e m b + ((Finset.range k).filter fun l => e (m + l) = b).card := by
  unfold cnt
  rw [← Finset.card_image_of_injective ((Finset.range k).filter fun l => e (m + l) = b) (add_right_injective m),
    ← Finset.card_union_of_disjoint]
  · congr 1; ext x
    simp only [Finset.mem_union, Finset.mem_filter, Finset.mem_range, Finset.mem_image]
    constructor
    · rintro ⟨hx, rfl⟩
      by_cases hm : x < m
      · exact .inl ⟨hm, rfl⟩
      · exact .inr ⟨x - m, ⟨by omega, by congr 1; omega⟩, by omega⟩
    · rintro (⟨hx, rfl⟩ | ⟨l, ⟨hl, rfl⟩, rfl⟩)
      · exact ⟨by omega, rfl⟩
      · exact ⟨by omega, rfl⟩
  · rw [Finset.disjoint_left]
    intro x hx hx'
    obtain ⟨l, _, rfl⟩ := Finset.mem_image.mp hx'
    have := Finset.mem_range.mp (Finset.mem_filter.mp hx).1
    omega

/-- The bins below `b`, from bin `B` on where nothing lies below `B`, add up to the elements below `b`. -/
theorem sum_cnt (e : ℕ → ℕ) (m B b : ℕ) (hB : ∀ x, x < m → B ≤ e x) :
    ∑ i ∈ Finset.Ico B b, cnt e m i = below e m b := by
  unfold cnt below
  rw [← Finset.card_biUnion]
  · congr 1; ext x
    simp only [Finset.mem_biUnion, Finset.mem_filter, Finset.mem_range, Finset.mem_Ico]
    constructor
    · rintro ⟨i, ⟨_, hi⟩, hx, rfl⟩; exact ⟨hx, hi⟩
    · rintro ⟨hx, hb⟩; exact ⟨e x, ⟨hB x hx, hb⟩, hx, rfl⟩
  · intro i _ j _ hij
    rw [Function.onFun, Finset.disjoint_left]
    intro x hx hx'
    exact hij ((Finset.mem_filter.mp hx).2.symm.trans (Finset.mem_filter.mp hx').2)

end Cert.Proof.Spearman

end
-- ==== Proof.Vals.lean ====
module
public import proofs.«01_k».proof.Proof.Rules
public import proofs.«01_k».proof.Proof.Order

/-! The values the kernel's vector operations compute, one lane at a time: the key of a bit pattern, its three
    digits, the running sums of a histogram, the destination of a lane, and the packed word. -/

@[expose] public section

namespace Cert.Proof.Spearman
open Cert.KernelIdeal Cert.KernelIdeal.Gen
open Idealize.ShloMosaic

/-- The key of a bit pattern: its unsigned order is the order of the floats. -/
def keyOf (b : BitVec 32) : BitVec 32 := b ^^^ (b.sshiftRight 31 ||| 0x80000000#32)

/-- The bin of a key in the first section (low eleven bits). -/
def b1 (k : BitVec 32) : ℕ := k.toNat % 2048
/-- The bin of a key in the second section (next eleven bits). -/
def b2 (k : BitVec 32) : ℕ := k.toNat / 2048 % 2048 + 2048
/-- The bin of a key in the third section (top ten bits). -/
def b3 (k : BitVec 32) : ℕ := k.toNat / 4194304 + 4096

theorem b1_lt (k) : b1 k < 2048 := Nat.mod_lt _ (by decide)
theorem b2_lt (k) : b2 k < 4096 := by have := Nat.mod_lt (k.toNat / 2048) (show 2048 > 0 by decide); unfold b2; omega
theorem b2_ge (k) : 2048 ≤ b2 k := by unfold b2; omega
theorem b3_lt (k) : b3 k < 5120 := by have := k.isLt; unfold b3; omega
theorem b3_ge (k) : 4096 ≤ b3 k := by unfold b3; omega

/-- Comparing digits from the top is comparing keys, ties by position. -/
theorem digits_lt (k k' : BitVec 32) (p : Prop) :
    (b3 k < b3 k' ∨ (b3 k = b3 k' ∧ (b2 k < b2 k' ∨ (b2 k = b2 k' ∧ (b1 k < b1 k' ∨ (b1 k = b1 k' ∧ p))))))
      ↔ (k.toNat < k'.toNat ∨ (k.toNat = k'.toNat ∧ p)) := by
  unfold b1 b2 b3
  by_cases hp : p <;> simp only [hp, and_true, and_false, or_false] <;> omega

theorem and_2047 (k : BitVec 32) : (k &&& 2047#32).toNat = k.toNat % 2048 := by
  rw [BitVec.toNat_and]; exact Nat.and_two_pow_sub_one_eq_mod _ 11

theorem shr_toNat (k : BitVec 32) (n : ℕ) : (k >>> n).toNat = k.toNat / 2 ^ n := by
  rw [BitVec.toNat_ushiftRight, Nat.shiftRight_eq_div_pow]

theorem bin1_toNat (k : BitVec 32) : ((k &&& 2047#32) + 0#32).toNat = b1 k := by
  rw [BitVec.add_zero, and_2047]; rfl
theorem bin2_toNat (k : BitVec 32) : (((k >>> 11) &&& 2047#32) + 2048#32).toNat = b2 k := by
  rw [BitVec.toNat_add, and_2047, shr_toNat, b2]
  show (k.toNat / 2048 % 2048 + 2048) % 4294967296 = _
  omega
theorem bin3_toNat (k : BitVec 32) : ((k >>> 22) + 4096#32).toNat = b3 k := by
  rw [BitVec.toNat_add, shr_toNat, b3]
  have := k.isLt
  show (k.toNat / 4194304 + 4096) % 4294967296 = _
  omega

/-- The word of the second pass: top ten bits of the key above the fourteen-bit position. -/
def pack (k p : BitVec 32) : BitVec 32 := ((k >>> 22) <<< 14) ||| p

theorem pack_toNat (k : BitVec 32) {x : ℕ} (hx : x < 16384) :
    (pack k (BitVec.ofNat 32 x)).toNat = k.toNat / 4194304 * 16384 + x := by
  have hk := k.isLt
  have h1 : ((k >>> 22) <<< 14 : BitVec 32).toNat = (k.toNat / 4194304) <<< 14 := by
    rw [BitVec.toNat_shiftLeft, shr_toNat]
    refine Nat.mod_eq_of_lt ?_
    rw [Nat.shiftLeft_eq]
    show k.toNat / 4194304 * 16384 < 4294967296
    omega
  have h2 : (BitVec.ofNat 32 x).toNat = x := by
    rw [BitVec.toNat_ofNat]; exact Nat.mod_eq_of_lt (by omega)
  rw [pack, BitVec.toNat_or, h1, h2, ← Nat.shiftLeft_add_eq_or_of_lt (show x < 2 ^ 14 from hx), Nat.shiftLeft_eq]

theorem pack_pos (k : BitVec 32) {x : ℕ} (hx : x < 16384) :
    (pack k (BitVec.ofNat 32 x) &&& 16383#32).toNat = x := by
  rw [BitVec.toNat_and, pack_toNat k hx]
  refine (Nat.and_two_pow_sub_one_eq_mod _ 14).trans ?_
  omega

theorem pack_bin (k : BitVec 32) {x : ℕ} (hx : x < 16384) :
    ((pack k (BitVec.ofNat 32 x) >>> 14) + 4096#32).toNat = b3 k := by
  have := k.isLt
  rw [BitVec.toNat_add, shr_toNat, pack_toNat k hx, b3]
  show ((k.toNat / 4194304 * 16384 + x) / 16384 + 4096) % 4294967296 = _
  omega

theorem ofNat_sub_self (a b : ℕ) : BitVec.ofNat 32 (a + b) - BitVec.ofNat 32 b = BitVec.ofNat 32 a := by
  rw [← BitVec.ofNat_add_ofNat]; exact BitVec.add_sub_cancel _ _

/-- The running sum of sixteen counts. -/
theorem scan_sum {w : IVec S16 32} (V : ℕ → ℕ) (hw : ∀ x, w x = BitVec.ofNat 32 (V (x 0).val)) (l : ℕ) (hl : l < 16) :
    scan .sum w (ln l) = BitVec.ofNat 32 (∑ i ∈ Finset.range (l + 1), V i) := by
  have key : ∀ (L : List (Fin ((![16] : Fin 1 → ℕ) 0))) (a : ℕ),
      L.foldl (fun r k => IntOp.addi r (w (Shape.ofLane (d := ![16]) k))) (BitVec.ofNat 32 a)
        = BitVec.ofNat 32 (L.foldl (fun r k => r + V k.val) a) := by
    intro L
    induction L with
    | nil => intro a; rfl
    | cons k L ih =>
      intro a
      rw [List.foldl_cons, List.foldl_cons, ← ih]
      congr 1
      refine (congrArg (fun z => BitVec.ofNat 32 a + z) ((congrArg w (ofLane_eq k)).trans (hw _))).trans ?_
      rw [BitVec.ofNat_add_ofNat]
      exact congrArg (fun z => BitVec.ofNat 32 (a + V z)) (ln_val k.isLt)
  unfold scan
  refine (congrArg (fun z => List.foldl _ z _) ((hw _).trans ?_)).trans ((key _ (V 0)).trans ?_)
  · rfl
  · congr 1
    rw [show ((ln l) 0).val = l from ln_val hl]
    clear key hw
    interval_cases l <;> simp only [Finset.sum_range_succ, Finset.sum_range_zero, zero_add] <;> rfl

theorem rowMajor_ln (l : ℕ) (hl : l < 16) : (S16.rowMajor (ln l)).val = l :=
  (Shape.rowMajor_val_one (d := ![16]) (ln l)).trans (ln_val hl)

/-- The count at a lane: one more than the earlier lanes of the same value. -/
theorem count_ln (v : IVec S16 32) (l : ℕ) (hl : l < 16) :
    (scanCount (broadcast S16 1#1) v).2 (ln l)
      = BitVec.ofNat 32 (((Finset.range l).filter fun i => v (ln i) = v (ln l)).card + 1) := by
  classical
  refine Eq.trans (if_pos (e := (1 : BitVec 32)) (show (1#1 : BitVec 1) = 1 from rfl)) (congrArg (BitVec.ofNat 32) ?_)
  have h1 : ((Finset.range l).filter fun i => v (ln i) = v (ln l)).card + 1
      = ((Finset.range (l + 1)).filter fun i => v (ln i) = v (ln l)).card := by
    rw [Finset.range_add_one, Finset.filter_insert, if_pos rfl, Finset.card_insert_of_notMem (by simp)]
  rw [h1]
  refine Finset.card_bij (fun (j : S16.Idx) _ => (j 0).val) ?_ ?_ ?_
  · intro j hj
    obtain ⟨h, -, e⟩ := (Finset.mem_filter.mp hj).2
    replace h : (S16.rowMajor j).val ≤ (S16.rowMajor (ln l)).val := h
    rw [rowMajor_ln l hl] at h
    have h' : (j 0).val ≤ l := (Shape.rowMajor_val_one (d := ![16]) j) ▸ h
    exact Finset.mem_filter.mpr ⟨Finset.mem_range.mpr (Nat.lt_succ_of_le h'), by rw [ln_eq]; exact e⟩
  · intro a _ b _ e
    rw [← ln_eq a, ← ln_eq b]
    exact congrArg ln e
  · intro i hi
    obtain ⟨h, e⟩ := Finset.mem_filter.mp hi
    have hi' : i < l + 1 := Finset.mem_range.mp h
    refine ⟨ln i, Finset.mem_filter.mpr ⟨Finset.mem_univ _, ?_, rfl, e⟩, ln_val (by omega)⟩
    show (S16.rowMajor (ln i)).val ≤ (S16.rowMajor (ln l)).val
    rw [rowMajor_ln l hl, rowMajor_ln i (by omega)]
    omega

/-! ## The kernel's vectors, lane by lane -/

section pays
variable {F : FTy → Type} [FloatOps F]

theorem key_val (v : Vec F S16 .i32) (x) : k0_pay17 v x = keyOf (v x) := by
  rfl
theorem pay7_val (v : Vec F S16 .i32) (x) : (k0_pay7 v x).toNat = b1 (keyOf (v x)) := bin1_toNat _
theorem pay8_val (v : Vec F S16 .i32) (x) : (k0_pay8 v x).toNat = b2 (keyOf (v x)) := bin2_toNat _
theorem pay9_val (v : Vec F S16 .i32) (x) : (k0_pay9 v x).toNat = b3 (keyOf (v x)) := bin3_toNat _
theorem pay19_val (v : Vec F S16 .i32) (x) : (k0_pay19 v x).toNat = b1 (keyOf (v x)) := bin1_toNat _
theorem pay22_val (v : Vec F S16 .i32) (x) : (k0_pay22 v x).toNat = b2 (v x) := bin2_toNat _
theorem pay24_val (v w : Vec F S16 .i32) (x) : k0_pay24 v w x = pack (v x) (w x) := rfl
theorem pay26_val (v : Vec F S16 .i32) (x) {k : BitVec 32} {p : ℕ} (h : v x = pack k (BitVec.ofNat 32 p)) (hp : p < 16384) :
    (k0_pay26 v x).toNat = p := by
  refine Eq.trans ?_ (pack_pos k hp)
  rw [← h]; rfl
theorem pay27_val (v : Vec F S16 .i32) (x) {k : BitVec 32} {p : ℕ} (h : v x = pack k (BitVec.ofNat 32 p)) (hp : p < 16384) :
    (k0_pay27 v x).toNat = b3 k := by
  refine Eq.trans ?_ (pack_bin k hp)
  rw [← h]; rfl

/-- A lane's number in the sixteen positions of trip `k`. -/
theorem pay18_val (k : ℕ) (h) (l : ℕ) (hl : l < 16) :
    (addi (broadcast S16 (Scalar.muli (Scf.iv 0#32 1#32 k) 16#32)) (iota .scVector S16 32 [0] h)) (ln l) = BitVec.ofNat 32 (16 * k + l) := by
  show (0#32 + BitVec.ofNat 32 k * 1#32) * 16#32 + BitVec.ofNat 32 (([0] : List (Fin 1)).foldl (fun n a => n * S16.size a + ((ln l) a).val) 0) = _
  have : (([0] : List (Fin 1)).foldl (fun n a => n * S16.size a + ((ln l) a).val) 0) = l := by
    show 0 * 16 + ((ln l) 0).val = l
    rw [ln_val hl]; omega
  rw [this, BitVec.zero_add, BitVec.mul_one, show BitVec.ofNat 32 k * 16#32 = BitVec.ofNat 32 (k * 16) from (BitVec.ofNat_mul ..).symm, BitVec.ofNat_add_ofNat, Nat.mul_comm]

/-- Where a lane goes: the running count of its bin, plus the earlier lanes of the same bin. -/
theorem dest_val (v w : IVec S16 32) (l : ℕ) (hl : l < 16) {T : ℕ} (hw : w (ln l) = BitVec.ofNat 32 T) :
    (subi (addi w (scanCount (broadcast S16 1#1) v).2) (broadcast S16 1#32)) (ln l)
      = BitVec.ofNat 32 (T + ((Finset.range l).filter fun i => v (ln i) = v (ln l)).card) := by
  show w (ln l) + (scanCount (broadcast S16 1#1) v).2 (ln l) - 1#32 = _
  rw [hw, count_ln v l hl, BitVec.ofNat_add_ofNat, ← Nat.add_assoc, ofNat_sub_self]

/-- What a scan step stores: the counts before the lane, from the carry on. -/
theorem pay10_val (C : ℕ) (v : Vec F S16 .i32) (V : ℕ → ℕ) (hv : ∀ x, v x = BitVec.ofNat 32 (V (x 0).val)) (l : ℕ) (hl : l < 16) :
    k0_pay10 (BitVec.ofNat 32 C) v (ln l) = BitVec.ofNat 32 (C + ∑ i ∈ Finset.range l, V i) := by
  show scan .sum v (ln l) - v (ln l) + BitVec.ofNat 32 C = _
  rw [scan_sum V hv l hl, hv, ln_val hl, Finset.sum_range_succ, ofNat_sub_self, BitVec.ofNat_add_ofNat, Nat.add_comm]

/-- The carry out of a scan step. -/
theorem pay11_val (C : ℕ) (v : Vec F S16 .i32) (V : ℕ → ℕ) (hv : ∀ x, v x = BitVec.ofNat 32 (V (x 0).val)) :
    Scalar.addi (BitVec.ofNat 32 C) (extractAt ![15] (k0_pay11 v) inpos_S16_p15) = BitVec.ofNat 32 (C + ∑ i ∈ Finset.range 16, V i) := by
  have h : extractAt ![15] (k0_pay11 v) inpos_S16_p15 = scan .sum v (ln 15) := by
    unfold extractAt k0_pay11
    refine congrArg (scan .sum v) ?_
    funext a
    obtain rfl : a = 0 := Subsingleton.elim _ _
    rfl
  rw [h, scan_sum V hv 15 (by decide)]
  exact BitVec.ofNat_add_ofNat ..

end pays

end Cert.Proof.Spearman
-- ==== Proof.Steps.lean ====
/-
  What one trip of each loop does to the arrays, as plain statements about functions of a position: clearing,
  counting, running sums, and placing sixteen elements at their ranks.
-/
module
public import proofs.«01_k».proof.Proof.Vals

@[expose] public section

namespace Cert.Proof.Spearman
open Cert.KernelIdeal Cert.KernelIdeal.Gen
open Idealize.ShloMosaic

variable {F : FTy → Type} [FloatOps F]

/-- The length of a column. -/
abbrev NN : ℕ := 16384

/-- A histogram of counts, as the array of words that holds it. -/
abbrev hvv (F : FTy → Type) (H : ℕ → ℕ) : ℕ → Elt F .i32 := fun j => BitVec.ofNat 32 (H j)

/-- The histogram after the first `w` bins of the section starting at `B` were replaced by the sums below them. -/
def scanned (B w : ℕ) (H : ℕ → ℕ) (j : ℕ) : ℕ := if B ≤ j ∧ j < B + w then ∑ b ∈ Finset.Ico B j, H b else H j

theorem scanned_zero (B : ℕ) (H : ℕ → ℕ) : scanned B 0 H = H := by
  funext j; unfold scanned; rw [if_neg (by omega)]

theorem scan_read (B k : ℕ) (H : ℕ → ℕ) (x : S16.Idx) : scanned B (16 * k) H (B + 16 * k + (x 0).val) = H (B + 16 * k + (x 0).val) := by
  unfold scanned; rw [if_neg (by omega)]

theorem scan_carry (B k : ℕ) (H : ℕ → ℕ) (v : Vec F S16 .i32) (hv : ∀ x, v x = BitVec.ofNat 32 (H (B + 16 * k + (x 0).val))) :
    Scalar.addi (BitVec.ofNat 32 (∑ b ∈ Finset.Ico B (B + 16 * k), H b)) (extractAt ![15] (k0_pay11 v) inpos_S16_p15)
      = BitVec.ofNat 32 (∑ b ∈ Finset.Ico B (B + 16 * (k + 1)), H b) := by
  rw [pay11_val _ v (fun i => H (B + 16 * k + i)) hv, ← Finset.sum_Ico_consecutive H (show B ≤ B + 16 * k by omega) (show B + 16 * k ≤ B + 16 * (k + 1) by omega),
    Finset.sum_Ico_eq_sum_range H (B + 16 * k)]
  congr 4; omega

theorem scan_store (B k : ℕ) (H : ℕ → ℕ) (v : Vec F S16 .i32) (hv : ∀ x, v x = BitVec.ofNat 32 (H (B + 16 * k + (x 0).val))) (j : ℕ) :
    (if B + 16 * k ≤ j ∧ j < B + 16 * k + 16 then
        k0_pay10 (BitVec.ofNat 32 (∑ b ∈ Finset.Ico B (B + 16 * k), H b)) v (ln (j - (B + 16 * k)))
      else hvv F (scanned B (16 * k) H) j) = hvv F (scanned B (16 * (k + 1)) H) j := by
  by_cases hj : B + 16 * k ≤ j ∧ j < B + 16 * k + 16
  · rw [if_pos hj, pay10_val _ v (fun i => H (B + 16 * k + i)) hv _ (by omega)]
    show _ = BitVec.ofNat 32 (scanned B (16 * (k + 1)) H j)
    unfold scanned
    rw [if_pos (by omega), ← Finset.sum_Ico_consecutive H (show B ≤ B + 16 * k by omega) hj.1, Finset.sum_Ico_eq_sum_range H (B + 16 * k)]
  · rw [if_neg hj]
    show BitVec.ofNat 32 (scanned B (16 * k) H j) = BitVec.ofNat 32 (scanned B (16 * (k + 1)) H j)
    unfold scanned
    congr 1
    by_cases h1 : B ≤ j ∧ j < B + 16 * k
    · rw [if_pos h1, if_pos (by omega)]
    · rw [if_neg h1, if_neg (by omega)]

/-- Adding one at the bins of sixteen more elements counts them. -/
theorem scat_cnt (v : IVec S16 32) (H : ℕ → ℕ) (e : ℕ → ℕ) (m : ℕ) (hv : ∀ l, l < 16 → (v (ln l)).toNat = e (m + l)) :
    scat (F := F) (e := .i32) true v (fun _ => 1#32) (hvv F fun j => H j + cnt e m j) = hvv F fun j => H j + cnt e (m + 16) j := by
  funext j
  refine (scat_ones v _ j).trans ?_
  rw [BitVec.ofNat_add_ofNat]
  refine congrArg (BitVec.ofNat 32) ?_
  dsimp only
  rw [cnt_add, Nat.add_assoc]
  refine congrArg (HAdd.hAdd (_ : ℕ)) (congrArg (HAdd.hAdd (_ : ℕ)) ?_)
  refine congrArg Finset.card (Finset.filter_congr fun l hl => ?_)
  rw [hv l (Finset.mem_range.mp hl)]

section place
variable {lt lt' : ℕ → ℕ → Prop}

/-- A lane's destination is its element's rank under the refined order. -/
theorem lane_dest (h : Tot lt) {d e T : ℕ → ℕ} (he : ∀ i, i < NN → e i = d (unrk NN lt i)) (hT : ∀ i, i < NN → T (e i) = below d NN (e i))
    {k : ℕ} (hk : 16 * k + 16 ≤ NN) {v w : IVec S16 32} (hv : ∀ l, l < 16 → (v (ln l)).toNat = e (16 * k + l))
    (hw : ∀ l, l < 16 → w (ln l) = BitVec.ofNat 32 (T (v (ln l)).toNat + cnt e (16 * k) (v (ln l)).toNat)) (l : ℕ) (hl : l < 16) :
    (subi (addi w (scanCount (broadcast S16 1#1) v).2) (broadcast S16 1#32)) (ln l)
      = BitVec.ofNat 32 (rk NN (refine d lt) (unrk NN lt (16 * k + l))) := by
  have hi : 16 * k + l < NN := by omega
  have hs := unrk_spec h hi
  have he' : ∀ x, x < NN → e (rk NN lt x) = d x := fun x hx => by rw [he _ (rk_lt_n h hx), unrk_rk h hx]
  rw [dest_val v w l hl (hw l hl), ← rk_refine h he' hs.1, hs.2, hv l hl, hT _ hi, below_rk h he']
  refine congrArg (BitVec.ofNat 32) ?_
  rw [cnt_add, Nat.add_assoc]
  refine congrArg (HAdd.hAdd (_ : ℕ)) (congrArg (HAdd.hAdd (_ : ℕ)) ?_)
  refine congrArg Finset.card (Finset.filter_congr fun i hi' => ?_)
  have hi' := Finset.mem_range.mp hi'
  rw [← BitVec.toNat_inj, hv i (by omega), hv l hl]

theorem toNat_rk (h' : Tot lt') {x : ℕ} (hx : x < NN) : (BitVec.ofNat 32 (rk NN lt' x)).toNat = rk NN lt' x := by
  have : rk NN lt' x < 16384 := rk_lt_n h' hx
  rw [BitVec.toNat_ofNat]; exact Nat.mod_eq_of_lt (by omega)

/-- Sixteen elements more are at their places. -/
theorem place {e : EltTy} (h : Tot lt) (h' : Tot lt') {k : ℕ} (hk : 16 * k + 16 ≤ NN) {v : IVec S16 32} {w : Vec F S16 e} {g D : ℕ → Elt F e}
    (hv : ∀ l, l < 16 → (v (ln l)).toNat = rk NN lt' (unrk NN lt (16 * k + l)))
    (hw : ∀ l, l < 16 → w (ln l) = D (unrk NN lt (16 * k + l)))
    (hg : ∀ x, x < NN → rk NN lt x < 16 * k → g (rk NN lt' x) = D x) :
    ∀ x, x < NN → rk NN lt x < 16 * (k + 1) → scat (F := F) false v w g (rk NN lt' x) = D x := by
  have hu : ∀ l, l < 16 → unrk NN lt (16 * k + l) < NN ∧ rk NN lt (unrk NN lt (16 * k + l)) = 16 * k + l :=
    fun l hl => unrk_spec h (by omega)
  have S := scat_set (F := F) v w g fun l l' hl hl' e => by
    rw [hv l hl, hv l' hl'] at e
    have := congrArg (rk NN lt) (rk_inj h' (hu l hl).1 (hu l' hl').1 e)
    rw [(hu l hl).2, (hu l' hl').2] at this
    omega
  intro x hx hr
  by_cases hlt : rk NN lt x < 16 * k
  · rw [S.2 _ fun l hl e => ?_, hg x hx hlt]
    rw [hv l hl] at e
    have := rk_inj h' (hu l hl).1 hx e
    rw [← this, (hu l hl).2] at hlt
    omega
  · have hl : rk NN lt x - 16 * k < 16 := by omega
    have hx' : unrk NN lt (16 * k + (rk NN lt x - 16 * k)) = x := by
      rw [show 16 * k + (rk NN lt x - 16 * k) = rk NN lt x by omega, unrk_rk h hx]
    have := S.1 _ hl
    rw [hv _ hl, hw _ hl, hx'] at this
    exact this

end place

end Cert.Proof.Spearman
-- ==== Proof.Loops.lean ====
/-
  The kernel's loops, each once for both columns it is run on: the histogram cleared, the digits of a column
  counted, one section of the histogram summed.
-/
module
public import proofs.«01_k».proof.Proof.Steps

@[expose] public section

noncomputable section

namespace Cert.Proof.Spearman
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {defs : Defs nD τ sig (Elt F) Λ₀} (thr : Thread nD τ)
variable {α : Type} {Q : α → sProp (MT nD τ sig (HIx 1) (Elt F) ℕ UU ℕ)}
variable {A9 : Memref sig thr.2.kind .vmem S5120 .i32} {A5 A6 A7 : Memref sig thr.2.kind .vmem S16384 .i32} {A8 : Memref sig thr.2.kind .vmem S16384 .f32}

/-! ## Summing one section of the histogram -/

/-- One trip of the summing loop. -/
def scanStep (A9 : Memref sig thr.2.kind .vmem S5120 .i32) (off : Fin 1 → ℕ) (hin : ∀ a, off a + S16.size a ≤ S5120.size a)
    (hl : A9.view.LoadsAt (Rect.unit (s := S5120) off S16.size hin).toLoadRect)
    (hx : (A9.access (Rect.unit (s := S5120) off S16.size hin)).Stores Finset.univ)
    (hm : (Finset.univ : Finset S16.Idx) = Finset.univ ∨ ∀ a, (Rect.unit (s := S5120) off S16.size hin).stride a = 1)
    (acc : BitVec 32) : Prog (TpuEff nD τ sig (Elt F) Λ₀ thr.2) (BitVec 32) :=
  .op (.load A9 (Rect.unit (s := S5120) off S16.size hin).toLoadRect hl) fun v =>
  .op (.load A9 (Rect.unit (s := S5120) off S16.size hin).toLoadRect hl) fun _ =>
  .op (.store A9 (Rect.unit (s := S5120) off S16.size hin) (k0_pay10 acc v) Finset.univ hx hm) fun _ =>
  .ret (Scalar.addi acc (extractAt ![15] (k0_pay11 v) inpos_S16_p15))

/-- What holds after `k` trips of the summing loop over the section at `B`. -/
def ScanInv (A9 : Memref sig thr.2.kind .vmem S5120 .i32) (B : ℕ) (H : ℕ → ℕ) (k : ℕ) (acc : BitVec 32) : sProp (MT nD τ sig (HIx 1) (Elt F) ℕ UU ℕ) :=
  iprop(⌜acc = BitVec.ofNat 32 (∑ b ∈ Finset.Ico B (B + 16 * k), H b)⌝ ∗ Holds thr A9 (hvv F (scanned B (16 * k) H)))

theorem scan_step {off : Fin 1 → ℕ} {hin} {hl} {hx} {hm} (B : ℕ) (H : ℕ → ℕ) (k : ℕ) (hoff : off 0 = B + 16 * k) (acc : BitVec 32) :
    ScanInv (F := F) thr A9 B H k acc
      ⊢ wp frame (wpE defs 𝒱₀ thr none) Set.univ (scanStep thr A9 off hin hl hx hm acc) (ScanInv thr A9 B H (k + 1)) := by
  unfold ScanInv scanStep
  iintro ⟨%hacc, H⟩
  subst hacc
  iapply (wp_load16 thr (B + 16 * k) hoff) $$ H
  iintro H
  iapply (wp_load16 thr (B + 16 * k) hoff) $$ H
  iintro H
  iapply (wp_store16 thr (B + 16 * k) hoff) $$ H
  iintro H
  rw [wp_ret]
  have hv : ∀ x : S16.Idx, (fun x : S16.Idx => hvv F (scanned B (16 * k) H) (B + 16 * k + (x 0).val)) x = BitVec.ofNat 32 (H (B + 16 * k + (x 0).val)) :=
    fun x => congrArg (BitVec.ofNat 32) (scan_read B k H x)
  imodintro
  isplitr
  · ipureintro; exact scan_carry (F := F) B k H _ hv
  · iapply (holds_congr thr (fun j _ => scan_store (F := F) B k H _ hv j)) $$ H

theorem scan_loop {l : Scf.Loop 32} {hok : l.OK} (B n : ℕ) (ht : l.trips = n) (off : Fin l.trips → Fin 1 → ℕ) (hoff : ∀ k, off k 0 = B + 16 * k.val)
    {body : Fin l.trips → BitVec 32 → Prog (TpuEff nD τ sig (Elt F) Λ₀ thr.2) (BitVec 32)}
    (hbody : ∀ k acc, ∃ hin hl hx hm, body k acc = scanStep thr A9 (off k) hin hl hx hm acc)
    (H : ℕ → ℕ) {kk : BitVec 32 → Prog (TpuEff nD τ sig (Elt F) Λ₀ thr.2) α} :
    Holds (F := F) thr A9 (hvv F H)
      ⊢ iprop((∀ v, Holds (F := F) thr A9 (hvv F (scanned B (16 * n) H)) -∗ wp frame (wpE defs 𝒱₀ thr none) Set.univ (kk v) Q)
        -∗ wp frame (wpE defs 𝒱₀ thr none) Set.univ (Scf.Loop.for l hok 0#32 body >>= kk) Q) := by
  subst ht
  iintro H Hk
  iapply (Scf.wp_for_bind frame (wpE defs 𝒱₀ thr none) Set.univ l.lb l.ub l.st hok 0#32 body (ScanInv thr A9 B H)
    (fun k acc => by obtain ⟨_, _, _, _, e⟩ := hbody k acc; rw [e]; exact scan_step thr B H k.val (hoff k) acc)) $$ [H]
  · unfold ScanInv
    isplitr
    · ipureintro; simp
    · rw [Nat.mul_zero, scanned_zero]; iexact H
  iintro %v H
  unfold ScanInv
  icases H with ⟨-, H⟩
  iapply Hk $$ H

/-! ## Clearing the histogram -/

/-- One trip of the clearing loop. -/
def clearStep (A9 : Memref sig thr.2.kind .vmem S5120 .i32) (off : Fin 4 → Fin 1 → ℕ) (hin : ∀ r a, off r a + S16.size a ≤ S5120.size a)
    (hl : ∀ r, A9.view.LoadsAt (Rect.unit (s := S5120) (off r) S16.size (hin r)).toLoadRect)
    (hx : ∀ r, (A9.access (Rect.unit (s := S5120) (off r) S16.size (hin r))).Stores Finset.univ)
    (hm : ∀ r, (Finset.univ : Finset S16.Idx) = Finset.univ ∨ ∀ a, (Rect.unit (s := S5120) (off r) S16.size (hin r)).stride a = 1) :
    Prog (TpuEff nD τ sig (Elt F) Λ₀ thr.2) (BitVec 32) :=
  .op (.load A9 (Rect.unit (s := S5120) (off 0) S16.size (hin 0)).toLoadRect (hl 0)) fun _ =>
  .op (.store A9 (Rect.unit (s := S5120) (off 0) S16.size (hin 0)) (fun _ => 0#32) Finset.univ (hx 0) (hm 0)) fun _ =>
  .op (.load A9 (Rect.unit (s := S5120) (off 1) S16.size (hin 1)).toLoadRect (hl 1)) fun _ =>
  .op (.store A9 (Rect.unit (s := S5120) (off 1) S16.size (hin 1)) (fun _ => 0#32) Finset.univ (hx 1) (hm 1)) fun _ =>
  .op (.load A9 (Rect.unit (s := S5120) (off 2) S16.size (hin 2)).toLoadRect (hl 2)) fun _ =>
  .op (.store A9 (Rect.unit (s := S5120) (off 2) S16.size (hin 2)) (fun _ => 0#32) Finset.univ (hx 2) (hm 2)) fun _ =>
  .op (.load A9 (Rect.unit (s := S5120) (off 3) S16.size (hin 3)).toLoadRect (hl 3)) fun _ =>
  .op (.store A9 (Rect.unit (s := S5120) (off 3) S16.size (hin 3)) (fun _ => 0#32) Finset.univ (hx 3) (hm 3)) fun _ =>
  .ret 0#32

theorem clear_one {off : Fin 1 → ℕ} {hin} {hl : A9.view.LoadsAt (Rect.unit (s := S5120) off S16.size hin).toLoadRect}
    {hx : (A9.access (Rect.unit (s := S5120) off S16.size hin)).Stores Finset.univ} {hm} (g : ℕ → Elt F .i32) (o : ℕ) (hoff : off 0 = o)
    {k : PUnit → Prog (TpuEff nD τ sig (Elt F) Λ₀ thr.2) α} :
    Holds (F := F) thr A9 (fun j => if j < o then 0#32 else g j)
      ⊢ iprop((Holds (F := F) thr A9 (fun j => if j < o + 16 then 0#32 else g j) -∗ wp frame (wpE defs 𝒱₀ thr none) Set.univ (k ⟨⟩) Q)
        -∗ wp frame (wpE defs 𝒱₀ thr none) Set.univ (.op (.load A9 (Rect.unit (s := S5120) off S16.size hin).toLoadRect hl) fun _ =>
          .op (.store A9 (Rect.unit (s := S5120) off S16.size hin) (fun _ => 0#32) Finset.univ hx hm) k) Q) := by
  have hj : ∀ j, j < 5120 → (if o ≤ j ∧ j < o + 16 then (0#32 : BitVec 32) else if j < o then 0#32 else g j) = if j < o + 16 then 0#32 else g j := by
    intro j _
    split_ifs <;> first | rfl | (exfalso; omega)
  iintro H Hk
  iapply (wp_load16 thr o hoff) $$ H
  iintro H
  iapply (wp_store16 thr o hoff) $$ H
  iintro H
  iapply Hk
  iapply (holds_congr thr hj) $$ H

theorem clear_step {off : Fin 4 → Fin 1 → ℕ} {hin} {hl} {hx} {hm} (g : ℕ → Elt F .i32) (k : ℕ) (hoff : ∀ r : Fin 4, off r 0 = 64 * k + 16 * r.val) :
    Holds (F := F) thr A9 (fun j => if j < 64 * k then 0#32 else g j)
      ⊢ wp frame (wpE defs 𝒱₀ thr none) Set.univ (clearStep thr A9 off hin hl hx hm)
          (fun _ => Holds (F := F) thr A9 (fun j => if j < 64 * (k + 1) then 0#32 else g j)) := by
  unfold clearStep
  iintro H
  iapply (clear_one thr g (64 * k) (hoff 0)) $$ H
  iintro H
  iapply (clear_one thr g (64 * k + 16) (hoff 1)) $$ H
  iintro H
  iapply (clear_one thr g (64 * k + 32) (hoff 2)) $$ H
  iintro H
  iapply (clear_one thr g (64 * k + 48) (hoff 3)) $$ H
  iintro H
  rw [wp_ret]
  imodintro
  iexact H

theorem clear_loop {l : Scf.Loop 32} {hok : l.OK} (ht : l.trips = 80) (off : Fin l.trips → Fin 4 → Fin 1 → ℕ)
    (hoff : ∀ k r, off k r 0 = 64 * k.val + 16 * r.val)
    {body : Fin l.trips → BitVec 32 → Prog (TpuEff nD τ sig (Elt F) Λ₀ thr.2) (BitVec 32)}
    (hbody : ∀ k acc, ∃ hin hl hx hm, body k acc = clearStep thr A9 (off k) hin hl hx hm)
    {init : BitVec 32} {kk : BitVec 32 → Prog (TpuEff nD τ sig (Elt F) Λ₀ thr.2) α} :
    iprop(∃ g, Holds (F := F) thr A9 g)
      ⊢ iprop((∀ v, Holds (F := F) thr A9 (hvv F fun _ => 0) -∗ wp frame (wpE defs 𝒱₀ thr none) Set.univ (kk v) Q)
        -∗ wp frame (wpE defs 𝒱₀ thr none) Set.univ (Scf.Loop.for l hok init body >>= kk) Q) := by
  iintro ⟨%g, H⟩ Hk
  iapply (Scf.wp_for_bind frame (wpE defs 𝒱₀ thr none) Set.univ l.lb l.ub l.st hok init body
    (fun k _ => Holds (F := F) thr A9 (fun j => if j < 64 * k then 0#32 else g j))
    (fun k acc => by obtain ⟨_, _, _, _, e⟩ := hbody k acc; rw [e]; exact clear_step thr g k.val (hoff k))) $$ [H]
  · have h0 : ∀ j, j < 5120 → g j = if j < 64 * 0 then 0#32 else g j := fun j _ => (if_neg (by omega)).symm
    iapply (holds_congr thr h0) $$ H
  iintro %v H
  iapply Hk
  have h1 : ∀ j, j < 5120 → (if j < 64 * l.trips then 0#32 else g j) = hvv F (fun _ => 0) j := fun j hj => by
    rw [ht, if_pos (by omega)]
  iapply (holds_congr thr h1) $$ H

/-! ## Counting the digits of a column -/

/-- Every index of a gather or scatter is inside its array. -/
abbrev Inb (n : ℕ) (v : IVec S16 32) : Prop := ∀ a x, ((![v] : Fin 1 → IVec S16 32) a x).toNat < (⟨1, ![n]⟩ : Shape).size a

theorem inb_of {n : ℕ} {v : IVec S16 32} (h : ∀ l, l < 16 → (v (ln l)).toNat < n) : Inb n v := by
  intro a x
  obtain rfl : a = 0 := Subsingleton.elim _ _
  have := h (x 0).val (x 0).isLt
  rw [ln_eq] at this
  exact this

/-- One trip of the counting loop. -/
def sweepStep (A5 : Memref sig thr.2.kind .vmem S16384 .i32) (A9 : Memref sig thr.2.kind .vmem S5120 .i32) (off : Fin 1 → ℕ) (hin : ∀ a, off a + S16.size a ≤ S16384.size a)
    (hl : A5.view.LoadsAt (Rect.unit (s := S16384) off S16.size hin).toLoadRect)
    (hs : (A9.access (.whole S5120)).Stores Finset.univ)
    (D1 D2 D3 : ∀ v, Decidable (Inb 5120 v)) :
    Prog (TpuEff nD τ sig (Elt F) Λ₀ thr.2) (BitVec 32) :=
  .op (.load A5 (Rect.unit (s := S16384) off S16.size hin).toLoadRect hl) fun v =>
  .op (.assume (Inb 5120 (k0_pay7 v)) (D1 _)) fun h1 =>
  SparseCore.vectorStoreIdx (d := ![16]) A9 (![k0_pay7 v] : Fin 1 → IVec S16 32) (fun _ => 1#32) (fun _ => 1#1) true h1.down hs >>= fun _ =>
  .op (.assume (Inb 5120 (k0_pay8 v)) (D2 _)) fun h2 =>
  SparseCore.vectorStoreIdx (d := ![16]) A9 (![k0_pay8 v] : Fin 1 → IVec S16 32) (fun _ => 1#32) (fun _ => 1#1) true h2.down hs >>= fun _ =>
  .op (.assume (Inb 5120 (k0_pay9 v)) (D3 _)) fun h3 =>
  SparseCore.vectorStoreIdx (d := ![16]) A9 (![k0_pay9 v] : Fin 1 → IVec S16 32) (fun _ => 1#32) (fun _ => 1#1) true h3.down hs >>= fun _ =>
  .ret 0#32

/-- The digit of element `x` counted in each section. -/
def d1 (raw : ℕ → BitVec 32) (x : ℕ) : ℕ := b1 (keyOf (raw x))
def d2 (raw : ℕ → BitVec 32) (x : ℕ) : ℕ := b2 (keyOf (raw x))
def d3 (raw : ℕ → BitVec 32) (x : ℕ) : ℕ := b3 (keyOf (raw x))

/-- The counts of all three digits over the first `m` elements. -/
def counts (raw : ℕ → BitVec 32) (m j : ℕ) : ℕ := cnt (d1 raw) m j + cnt (d2 raw) m j + cnt (d3 raw) m j

theorem hvv_congr {H H' : ℕ → ℕ} (h : ∀ j, H j = H' j) : hvv F H = hvv F H' := congrArg (hvv F) (funext h)

theorem sweep_step {off : Fin 1 → ℕ} {hin} {hl} {hs} {D1 D2 D3} (raw : ℕ → BitVec 32) (k : ℕ) (hoff : off 0 = 16 * k) :
    iprop(Holds (F := F) thr A5 raw ∗ Holds (F := F) thr A9 (hvv F (counts raw (16 * k))))
      ⊢ wp frame (wpE defs 𝒱₀ thr none) Set.univ (sweepStep thr A5 A9 off hin hl hs D1 D2 D3)
          (fun _ => iprop(Holds (F := F) thr A5 raw ∗ Holds (F := F) thr A9 (hvv F (counts raw (16 * (k + 1)))))) := by
  unfold sweepStep
  iintro ⟨H5, H9⟩
  iapply (wp_load16 thr (16 * k) hoff) $$ H5
  iintro H5
  have h1 : ∀ l, l < 16 → (k0_pay7 (F := F) (fun x => raw (16 * k + (x 0).val)) (ln l)).toNat = d1 raw (16 * k + l) :=
    fun l hl => (pay7_val _ _).trans (by rw [ln_val hl]; rfl)
  have h2 : ∀ l, l < 16 → (k0_pay8 (F := F) (fun x => raw (16 * k + (x 0).val)) (ln l)).toNat = d2 raw (16 * k + l) :=
    fun l hl => (pay8_val _ _).trans (by rw [ln_val hl]; rfl)
  have h3 : ∀ l, l < 16 → (k0_pay9 (F := F) (fun x => raw (16 * k + (x 0).val)) (ln l)).toNat = d3 raw (16 * k + l) :=
    fun l hl => (pay9_val _ _).trans (by rw [ln_val hl]; rfl)
  rw [wp_assume_of _ _ _ _ (inb_of fun l hl => by rw [h1 l hl]; have := b1_lt (keyOf (raw (16 * k + l))); unfold d1; omega)]
  iapply (wp_scatter thr) $$ H9
  iintro H9
  rw [wp_assume_of _ _ _ _ (inb_of fun l hl => by rw [h2 l hl]; have := b2_lt (keyOf (raw (16 * k + l))); unfold d2; omega)]
  iapply (wp_scatter thr) $$ H9
  iintro H9
  rw [wp_assume_of _ _ _ _ (inb_of fun l hl => by rw [h3 l hl]; have := b3_lt (keyOf (raw (16 * k + l))); unfold d3; omega)]
  iapply (wp_scatter thr) $$ H9
  iintro H9
  rw [wp_ret]
  imodintro
  isplitl [H5]
  · iexact H5
  rw [show hvv F (counts raw (16 * k)) = hvv F (fun j => (cnt (d2 raw) (16 * k) j + cnt (d3 raw) (16 * k) j) + cnt (d1 raw) (16 * k) j) from
      hvv_congr fun j => by unfold counts; omega, scat_cnt _ _ (d1 raw) _ h1,
    show hvv F (fun j => (cnt (d2 raw) (16 * k) j + cnt (d3 raw) (16 * k) j) + cnt (d1 raw) (16 * k + 16) j)
      = hvv F (fun j => (cnt (d1 raw) (16 * k + 16) j + cnt (d3 raw) (16 * k) j) + cnt (d2 raw) (16 * k) j) from
      hvv_congr fun j => by omega, scat_cnt _ _ (d2 raw) _ h2,
    show hvv F (fun j => (cnt (d1 raw) (16 * k + 16) j + cnt (d3 raw) (16 * k) j) + cnt (d2 raw) (16 * k + 16) j)
      = hvv F (fun j => (cnt (d1 raw) (16 * k + 16) j + cnt (d2 raw) (16 * k + 16) j) + cnt (d3 raw) (16 * k) j) from
      hvv_congr fun j => by omega, scat_cnt _ _ (d3 raw) _ h3]
  iexact H9

theorem sweep_loop {l : Scf.Loop 32} {hok : l.OK} (ht : l.trips = 1024) (off : Fin l.trips → Fin 1 → ℕ)
    (hoff : ∀ k, off k 0 = 16 * k.val)
    {body : Fin l.trips → BitVec 32 → Prog (TpuEff nD τ sig (Elt F) Λ₀ thr.2) (BitVec 32)}
    (hbody : ∀ k acc, ∃ hin hl hs D1 D2 D3, body k acc = sweepStep thr A5 A9 (off k) hin hl hs D1 D2 D3)
    (raw : ℕ → BitVec 32) {init : BitVec 32} {kk : BitVec 32 → Prog (TpuEff nD τ sig (Elt F) Λ₀ thr.2) α} :
    iprop(Holds (F := F) thr A5 raw ∗ Holds (F := F) thr A9 (hvv F fun _ => 0))
      ⊢ iprop((∀ v, Holds (F := F) thr A5 raw -∗ Holds (F := F) thr A9 (hvv F (counts raw NN)) -∗ wp frame (wpE defs 𝒱₀ thr none) Set.univ (kk v) Q)
        -∗ wp frame (wpE defs 𝒱₀ thr none) Set.univ (Scf.Loop.for l hok init body >>= kk) Q) := by
  iintro ⟨H5, H9⟩ Hk
  iapply (Scf.wp_for_bind frame (wpE defs 𝒱₀ thr none) Set.univ l.lb l.ub l.st hok init body
    (fun k _ => iprop(Holds (F := F) thr A5 raw ∗ Holds (F := F) thr A9 (hvv F (counts raw (16 * k)))))
    (fun k acc => by obtain ⟨_, _, _, _, _, _, e⟩ := hbody k acc; rw [e]; exact sweep_step thr raw k.val (hoff k))) $$ [H5 H9]
  · isplitl [H5]
    · iexact H5
    · rw [show hvv F (counts raw (16 * 0)) = hvv F (fun _ => 0) from
        hvv_congr fun j => by unfold counts; rw [Nat.mul_zero, cnt_zero, cnt_zero, cnt_zero]]
      iexact H9
  iintro %v ⟨H5, H9⟩
  iapply Hk $$ H5
  rw [show Scf.trips l.lb l.ub l.st = 1024 from ht]
  iexact H9

end Cert.Proof.Spearman
-- ==== Proof.Passes.lean ====
/-
  The three passes that move a column's elements to their ranks, and the last one of the second column, which
  sums the products instead of storing.
-/
module
public import proofs.«01_k».proof.Proof.Loops

@[expose] public section

noncomputable section

namespace Cert.Proof.Spearman
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Orders and tables -/

/-- The order of the positions, refined by one digit after another. -/
abbrev L0 (a b : ℕ) : Prop := a < b
abbrev L1 (raw : ℕ → BitVec 32) : ℕ → ℕ → Prop := refine (d1 raw) L0
abbrev L2 (raw : ℕ → BitVec 32) : ℕ → ℕ → Prop := refine (d2 raw) (L1 raw)
abbrev L3 (raw : ℕ → BitVec 32) : ℕ → ℕ → Prop := refine (d3 raw) (L2 raw)

theorem tot0 : Tot L0 := tot_lt
theorem tot1 (raw) : Tot (L1 raw) := tot0.refine _
theorem tot2 (raw) : Tot (L2 raw) := (tot1 raw).refine _
theorem tot3 (raw) : Tot (L3 raw) := (tot2 raw).refine _

/-- The last order is the order of the keys, ties by position. -/
theorem L3_iff (raw : ℕ → BitVec 32) (y x : ℕ) :
    L3 raw y x ↔ ((keyOf (raw y)).toNat < (keyOf (raw x)).toNat ∨ ((keyOf (raw y)).toNat = (keyOf (raw x)).toNat ∧ y < x)) :=
  digits_lt _ _ _

/-- The start table: every section of the histogram summed. -/
def table (raw : ℕ → BitVec 32) : ℕ → ℕ := scanned 4096 1024 (scanned 2048 2048 (scanned 0 2048 (counts raw NN)))

theorem cnt_eq_zero {e : ℕ → ℕ} {m b : ℕ} (h : ∀ x, x < m → e x ≠ b) : cnt e m b = 0 := by
  unfold cnt
  rw [Finset.card_eq_zero, Finset.filter_eq_empty_iff]
  exact fun x hx => h x (Finset.mem_range.mp hx)

theorem counts1 (raw) (m b : ℕ) (hb : b < 2048) : counts raw m b = cnt (d1 raw) m b := by
  unfold counts
  rw [cnt_eq_zero (e := d2 raw) fun x _ h => by have := b2_ge (keyOf (raw x)); unfold d2 at h; omega,
    cnt_eq_zero (e := d3 raw) fun x _ h => by have := b3_ge (keyOf (raw x)); unfold d3 at h; omega]
  rfl
theorem counts2 (raw) (m b : ℕ) (h1 : 2048 ≤ b) (h2 : b < 4096) : counts raw m b = cnt (d2 raw) m b := by
  unfold counts
  rw [cnt_eq_zero (e := d1 raw) fun x _ h => by have := b1_lt (keyOf (raw x)); unfold d1 at h; omega,
    cnt_eq_zero (e := d3 raw) fun x _ h => by have := b3_ge (keyOf (raw x)); unfold d3 at h; omega]
  omega
theorem counts3 (raw) (m b : ℕ) (h1 : 4096 ≤ b) : counts raw m b = cnt (d3 raw) m b := by
  unfold counts
  rw [cnt_eq_zero (e := d1 raw) fun x _ h => by have := b1_lt (keyOf (raw x)); unfold d1 at h; omega,
    cnt_eq_zero (e := d2 raw) fun x _ h => by have := b2_lt (keyOf (raw x)); unfold d2 at h; omega]
  omega

theorem table1 (raw) (j : ℕ) (hj : j < 2048) : table raw j = below (d1 raw) NN j := by
  unfold table
  rw [scanned, if_neg (by omega), scanned, if_neg (by omega), scanned, if_pos (by omega), ← sum_cnt _ _ 0 _ fun _ _ => Nat.zero_le _]
  exact Finset.sum_congr rfl fun b hb => counts1 raw _ _ (by have := Finset.mem_Ico.mp hb; omega)
theorem table2 (raw) (j : ℕ) (h1 : 2048 ≤ j) (hj : j < 4096) : table raw j = below (d2 raw) NN j := by
  unfold table
  rw [scanned, if_neg (by omega), scanned, if_pos (by omega), ← sum_cnt (d2 raw) _ 2048 _ fun _ _ => b2_ge _]
  refine Finset.sum_congr rfl fun b hb => ?_
  have := Finset.mem_Ico.mp hb
  rw [scanned, if_neg (by omega)]
  exact counts2 raw _ _ (by omega) (by omega)
theorem table3 (raw) (j : ℕ) (h1 : 4096 ≤ j) (hj : j < 5120) : table raw j = below (d3 raw) NN j := by
  unfold table
  rw [scanned, if_pos (by omega), ← sum_cnt (d3 raw) _ 4096 _ fun _ _ => b3_ge _]
  refine Finset.sum_congr rfl fun b hb => ?_
  have := Finset.mem_Ico.mp hb
  rw [scanned, if_neg (by omega), scanned, if_neg (by omega)]
  exact counts3 raw _ _ (by omega)

/-- The array holds `D x` at the place of every element `x`. -/
def Placed {X : Type} (lt : ℕ → ℕ → Prop) (D g : ℕ → X) : Prop := ∀ x, x < NN → g (rk NN lt x) = D x

theorem Placed.at {X : Type} {lt : ℕ → ℕ → Prop} {D g : ℕ → X} (h : Tot lt) (p : Placed lt D g) {i : ℕ} (hi : i < NN) : g i = D (unrk NN lt i) := by
  have := unrk_spec h hi
  rw [← p _ this.1, this.2]

theorem unrk0 {i : ℕ} (hi : i < NN) : unrk NN L0 i = i := by
  have := unrk_spec tot0 hi
  rw [rk_id (by omega)] at this
  exact this.2

variable {defs : Defs nD τ sig (Elt F) Λ₀} (thr : Thread nD τ)
variable {α : Type} {Q : α → sProp (MT nD τ sig (HIx 1) (Elt F) ℕ UU ℕ)}
variable {A9 : Memref sig thr.2.kind .vmem S5120 .i32} {A5 A6 A7 : Memref sig thr.2.kind .vmem S16384 .i32} {A8 : Memref sig thr.2.kind .vmem S16384 .f32}

/-! ## The first pass -/

/-- One trip of the first pass. -/
def pass1Step (A5 A6 A7 : Memref sig thr.2.kind .vmem S16384 .i32) (A9 : Memref sig thr.2.kind .vmem S5120 .i32) (off : Fin 1 → ℕ) (hin : ∀ a, off a + S16.size a ≤ S16384.size a)
    (hl : A5.view.LoadsAt (Rect.unit (s := S16384) off S16.size hin).toLoadRect)
    (hg : A9.view.Loads) (hs : (A9.access (.whole S5120)).Stores Finset.univ)
    (h6 : (A6.access (.whole S16384)).Stores Finset.univ) (h7 : (A7.access (.whole S16384)).Stores Finset.univ)
    (D1 : ∀ v, Decidable (Inb 5120 v ∧ Inb 5120 v)) (D2 : ∀ v, Decidable (Inb 16384 v ∧ Inb 16384 v)) (pos : IVec S16 32) :
    Prog (TpuEff nD τ sig (Elt F) Λ₀ thr.2) Unit :=
  .op (.load A5 (Rect.unit (s := S16384) off S16.size hin).toLoadRect hl) fun v =>
  .op (.assume (Inb 5120 (k0_pay19 v) ∧ Inb 5120 (k0_pay19 v)) (D1 _)) fun h1 =>
  SparseCore.vectorLoadIdx A9 (![k0_pay19 v] : Fin 1 → IVec S16 32) h1.down.1 hg >>= fun c =>
  SparseCore.vectorStoreIdx (d := ![16]) A9 (![k0_pay19 v] : Fin 1 → IVec S16 32) (fun _ => 1#32) (fun _ => 1#1) true h1.down.2 hs >>= fun _ =>
  .op (.assume (Inb 16384 (k0_pay20 (k0_pay19 v) c) ∧ Inb 16384 (k0_pay20 (k0_pay19 v) c)) (D2 _)) fun h2 =>
  SparseCore.vectorStoreIdx (d := ![16]) A6 (![k0_pay20 (k0_pay19 v) c] : Fin 1 → IVec S16 32) (k0_pay17 v) (fun _ => 1#1) false h2.down.1 h6 >>= fun _ =>
  SparseCore.vectorStoreIdx (d := ![16]) A7 (![k0_pay20 (k0_pay19 v) c] : Fin 1 → IVec S16 32) pos (fun _ => 1#1) false h2.down.2 h7 >>= fun _ =>
  .ret ⟨⟩

/-- The elements of the first `m` places have been moved. -/
def Part {X : Type} (lt lt' : ℕ → ℕ → Prop) (D : ℕ → X) (m : ℕ) (g : ℕ → X) : Prop :=
  ∀ x, x < NN → rk NN lt x < m → g (rk NN lt' x) = D x

theorem Part.placed {X : Type} {lt lt' : ℕ → ℕ → Prop} {D g : ℕ → X} (h : Tot lt) (p : Part lt lt' D NN g) : Placed lt' D g :=
  fun x hx => p x hx (rk_lt_n h hx)

/-- What holds after `k` trips of the first pass. -/
def Inv1 (A5 A6 A7 : Memref sig thr.2.kind .vmem S16384 .i32) (A9 : Memref sig thr.2.kind .vmem S5120 .i32) (raw : ℕ → BitVec 32) (T : ℕ → ℕ) (k : ℕ) :
    sProp (MT nD τ sig (HIx 1) (Elt F) ℕ UU ℕ) :=
  iprop(Holds (F := F) thr A5 raw ∗ Holds (F := F) thr A9 (hvv F fun j => T j + cnt (d1 raw) (16 * k) j)
    ∗ (∃ g, ⌜Part L0 (L1 raw) (fun x => keyOf (raw x)) (16 * k) g⌝ ∗ Holds (F := F) thr A6 g)
    ∗ (∃ g, ⌜Part L0 (L1 raw) (fun x => BitVec.ofNat 32 x) (16 * k) g⌝ ∗ Holds (F := F) thr A7 g))

theorem pass1_step {off : Fin 1 → ℕ} {hin} {hl} {hg} {hs} {h6} {h7} {D1 D2} (raw : ℕ → BitVec 32) (T : ℕ → ℕ)
    (hT : ∀ i, i < NN → T (d1 raw i) = below (d1 raw) NN (d1 raw i)) (k : ℕ) (hk : k < 1024) (hoff : off 0 = 16 * k)
    (pos : IVec S16 32) (hpos : ∀ l, l < 16 → pos (ln l) = BitVec.ofNat 32 (16 * k + l)) :
    Inv1 (F := F) thr A5 A6 A7 A9 raw T k
      ⊢ wp frame (wpE defs 𝒱₀ thr none) Set.univ (pass1Step thr A5 A6 A7 A9 off hin hl hg hs h6 h7 D1 D2 pos)
          (fun _ => Inv1 (F := F) thr A5 A6 A7 A9 raw T (k + 1)) := by
  unfold Inv1 pass1Step
  iintro ⟨H5, H9, ⟨%g6, %p6, H6⟩, ⟨%g7, %p7, H7⟩⟩
  iapply (wp_load16 thr (16 * k) hoff) $$ H5
  iintro H5
  have h1 : ∀ l, l < 16 → (k0_pay19 (F := F) (fun x => raw (16 * k + (x 0).val)) (ln l)).toNat = d1 raw (16 * k + l) :=
    fun l hl => (pay19_val _ _).trans (by rw [ln_val hl]; rfl)
  have hin5 : Inb 5120 (k0_pay19 (F := F) (fun x => raw (16 * k + (x 0).val))) :=
    inb_of fun l hl => by rw [h1 l hl]; have := b1_lt (keyOf (raw (16 * k + l))); unfold d1; omega
  rw [wp_assume_of _ _ _ _ ⟨hin5, hin5⟩]
  iapply (wp_gather thr) $$ H9
  iintro H9
  iapply (wp_scatter thr) $$ H9
  iintro H9
  have hN : 16 * k + 16 ≤ NN := by show 16 * k + 16 ≤ 16384; omega
  have hd : ∀ l, l < 16 → (k0_pay20 (F := F) (k0_pay19 (F := F) (fun x => raw (16 * k + (x 0).val)))
        (fun x => hvv F (fun j => T j + cnt (d1 raw) (16 * k) j) (k0_pay19 (F := F) (fun x => raw (16 * k + (x 0).val)) x).toNat) (ln l)).toNat
      = rk NN (L1 raw) (unrk NN L0 (16 * k + l)) := fun l hl =>
    (congrArg BitVec.toNat (lane_dest tot0 (e := d1 raw) (d := d1 raw) (fun i hi => by rw [unrk0 hi]) hT hN h1 (fun l hl => rfl) l hl)).trans
      (toNat_rk (tot1 raw) (unrk_spec tot0 (show 16 * k + l < 16384 by omega)).1)
  have hinN : Inb 16384 _ := inb_of fun l hl => by
    rw [hd l hl]; exact rk_lt_n (tot1 raw) (unrk_spec tot0 (show 16 * k + l < 16384 by omega)).1
  rw [wp_assume_of _ _ _ _ ⟨hinN, hinN⟩]
  iapply (wp_scatter thr) $$ H6
  iintro H6
  iapply (wp_scatter thr) $$ H7
  iintro H7
  rw [wp_ret]
  imodintro
  isplitl [H5]
  · iexact H5
  isplitl [H9]
  · rw [scat_cnt _ _ (d1 raw) _ h1]; iexact H9
  isplitl [H6]
  · iexists _; isplitr
    swap
    · iexact H6
    · ipureintro
      refine place tot0 (tot1 raw) hN hd (fun l hl => ?_) p6
      rw [key_val, ln_val hl, unrk0 (show 16 * k + l < 16384 by omega)]
  · iexists _; isplitr
    swap
    · iexact H7
    · ipureintro
      refine place tot0 (tot1 raw) hN hd (fun l hl => ?_) p7
      rw [hpos l hl, unrk0 (show 16 * k + l < 16384 by omega)]

theorem pass1_loop {l : Scf.Loop 32} {hok : l.OK} (ht : l.trips = 1024) (off : Fin l.trips → Fin 1 → ℕ) (hoff : ∀ k, off k 0 = 16 * k.val)
    {body : Fin l.trips → Unit → Prog (TpuEff nD τ sig (Elt F) Λ₀ thr.2) Unit} (pos : Fin l.trips → IVec S16 32)
    (hpos : ∀ k l, l < 16 → pos k (ln l) = BitVec.ofNat 32 (16 * k.val + l))
    (hbody : ∀ k acc, ∃ hin hl hg hs h6 h7 D1 D2, body k acc = pass1Step thr A5 A6 A7 A9 (off k) hin hl hg hs h6 h7 D1 D2 (pos k))
    (raw : ℕ → BitVec 32) (T : ℕ → ℕ) (hT : ∀ i, i < NN → T (d1 raw i) = below (d1 raw) NN (d1 raw i))
    {init : Unit} {kk : Unit → Prog (TpuEff nD τ sig (Elt F) Λ₀ thr.2) α} :
    iprop(Holds (F := F) thr A5 raw ∗ Holds (F := F) thr A9 (hvv F T) ∗ (∃ g, Holds (F := F) thr A6 g) ∗ (∃ g, Holds (F := F) thr A7 g))
      ⊢ iprop((∀ v, Holds (F := F) thr A5 raw -∗ (∃ T', ⌜∀ j, 2048 ≤ j → T' j = T j⌝ ∗ Holds (F := F) thr A9 (hvv F T'))
            -∗ (∃ g, ⌜Placed (L1 raw) (fun x => keyOf (raw x)) g⌝ ∗ Holds (F := F) thr A6 g)
            -∗ (∃ g, ⌜Placed (L1 raw) (fun x => BitVec.ofNat 32 x) g⌝ ∗ Holds (F := F) thr A7 g)
            -∗ wp frame (wpE defs 𝒱₀ thr none) Set.univ (kk v) Q)
        -∗ wp frame (wpE defs 𝒱₀ thr none) Set.univ (Scf.Loop.for l hok init body >>= kk) Q) := by
  iintro ⟨H5, H9, ⟨%g6, H6⟩, ⟨%g7, H7⟩⟩ Hk
  iapply (Scf.wp_for_bind frame (wpE defs 𝒱₀ thr none) Set.univ l.lb l.ub l.st hok init body
    (fun k _ => Inv1 (F := F) thr A5 A6 A7 A9 raw T k)
    (fun k acc => by
      obtain ⟨_, _, _, _, _, _, _, _, e⟩ := hbody k acc; rw [e]
      exact pass1_step thr raw T hT k.val (lt_of_lt_of_eq k.isLt ht) (hoff k) (pos k) (hpos k))) $$ [H5 H9 H6 H7]
  · unfold Inv1
    isplitl [H5]
    · iexact H5
    isplitl [H9]
    · rw [show hvv F (fun j => T j + cnt (d1 raw) (16 * 0) j) = hvv F T from hvv_congr fun j => by rw [Nat.mul_zero, cnt_zero]; rfl]
      iexact H9
    isplitl [H6]
    · iexists g6; isplitr
      · ipureintro; exact fun x _ h => absurd h (by omega)
      · iexact H6
    · iexists g7; isplitr
      · ipureintro; exact fun x _ h => absurd h (by omega)
      · iexact H7
  iintro %v
  rw [show Scf.trips l.lb l.ub l.st = 1024 from ht]
  unfold Inv1
  iintro ⟨H5, H9, ⟨%g6, %p6, H6⟩, ⟨%g7, %p7, H7⟩⟩
  iapply Hk $$ H5 [H9] [H6] [H7]
  · iexists _; isplitr
    swap
    · iexact H9
    · ipureintro
      intro j hj
      rw [cnt_eq_zero fun x _ h => ?_]; rfl
      have := b1_lt (keyOf (raw x)); unfold d1 at h; omega
  · iexists g6; isplitr
    · ipureintro; exact Part.placed tot0 p6
    · iexact H6
  · iexists g7; isplitr
    · ipureintro; exact Part.placed tot0 p7
    · iexact H7

/-! ## The second pass -/

/-- One trip of the second pass. -/
def pass2Step (A5 A6 A7 : Memref sig thr.2.kind .vmem S16384 .i32) (A9 : Memref sig thr.2.kind .vmem S5120 .i32) (off : Fin 1 → ℕ) (hin : ∀ a, off a + S16.size a ≤ S16384.size a)
    (hl6 : A6.view.LoadsAt (Rect.unit (s := S16384) off S16.size hin).toLoadRect)
    (hl7 : A7.view.LoadsAt (Rect.unit (s := S16384) off S16.size hin).toLoadRect)
    (hg : A9.view.Loads) (hs : (A9.access (.whole S5120)).Stores Finset.univ) (h5 : (A5.access (.whole S16384)).Stores Finset.univ)
    (D1 : ∀ v, Decidable (Inb 5120 v ∧ Inb 5120 v)) (D2 : ∀ v, Decidable (Inb 16384 v)) :
    Prog (TpuEff nD τ sig (Elt F) Λ₀ thr.2) Unit :=
  .op (.load A6 (Rect.unit (s := S16384) off S16.size hin).toLoadRect hl6) fun v =>
  .op (.load A7 (Rect.unit (s := S16384) off S16.size hin).toLoadRect hl7) fun u =>
  .op (.assume (Inb 5120 (k0_pay22 v) ∧ Inb 5120 (k0_pay22 v)) (D1 _)) fun h1 =>
  SparseCore.vectorLoadIdx A9 (![k0_pay22 v] : Fin 1 → IVec S16 32) h1.down.1 hg >>= fun c =>
  SparseCore.vectorStoreIdx (d := ![16]) A9 (![k0_pay22 v] : Fin 1 → IVec S16 32) (fun _ => 1#32) (fun _ => 1#1) true h1.down.2 hs >>= fun _ =>
  .op (.assume (Inb 16384 (k0_pay23 (k0_pay22 v) c)) (D2 _)) fun h2 =>
  SparseCore.vectorStoreIdx (d := ![16]) A5 (![k0_pay23 (k0_pay22 v) c] : Fin 1 → IVec S16 32) (k0_pay24 v u) (fun _ => 1#1) false h2.down h5 >>= fun _ =>
  .ret ⟨⟩

/-- The word placed by the second pass. -/
abbrev word (raw : ℕ → BitVec 32) (x : ℕ) : BitVec 32 := pack (keyOf (raw x)) (BitVec.ofNat 32 x)

/-- What holds after `k` trips of the second pass. -/
def Inv2 (A5 A6 A7 : Memref sig thr.2.kind .vmem S16384 .i32) (A9 : Memref sig thr.2.kind .vmem S5120 .i32) (raw g6 g7 : ℕ → BitVec 32) (T : ℕ → ℕ) (k : ℕ) :
    sProp (MT nD τ sig (HIx 1) (Elt F) ℕ UU ℕ) :=
  iprop(Holds (F := F) thr A6 g6 ∗ Holds (F := F) thr A7 g7 ∗ Holds (F := F) thr A9 (hvv F fun j => T j + cnt (fun i => b2 (g6 i)) (16 * k) j)
    ∗ (∃ g, ⌜Part (L1 raw) (L2 raw) (word raw) (16 * k) g⌝ ∗ Holds (F := F) thr A5 g))

theorem pass2_step {off : Fin 1 → ℕ} {hin} {hl6} {hl7} {hg} {hs} {h5} {D1 D2} (raw g6 g7 : ℕ → BitVec 32) (T : ℕ → ℕ)
    (p6 : Placed (L1 raw) (fun x => keyOf (raw x)) g6) (p7 : Placed (L1 raw) (fun x => BitVec.ofNat 32 x) g7)
    (hT : ∀ i, i < NN → T (d2 raw i) = below (d2 raw) NN (d2 raw i)) (k : ℕ) (hk : k < 1024) (hoff : off 0 = 16 * k) :
    Inv2 (F := F) thr A5 A6 A7 A9 raw g6 g7 T k
      ⊢ wp frame (wpE defs 𝒱₀ thr none) Set.univ (pass2Step thr A5 A6 A7 A9 off hin hl6 hl7 hg hs h5 D1 D2)
          (fun _ => Inv2 (F := F) thr A5 A6 A7 A9 raw g6 g7 T (k + 1)) := by
  unfold Inv2 pass2Step
  iintro ⟨H6, H7, H9, ⟨%g5, %p5, H5⟩⟩
  iapply (wp_load16 thr (16 * k) hoff) $$ H6
  iintro H6
  iapply (wp_load16 thr (16 * k) hoff) $$ H7
  iintro H7
  have h1 : ∀ l, l < 16 → (k0_pay22 (F := F) (fun x => g6 (16 * k + (x 0).val)) (ln l)).toNat = b2 (g6 (16 * k + l)) :=
    fun l hl => (pay22_val _ _).trans (by rw [ln_val hl])
  have hin5 : Inb 5120 (k0_pay22 (F := F) (fun x => g6 (16 * k + (x 0).val))) :=
    inb_of fun l hl => by rw [h1 l hl]; have := b2_lt (g6 (16 * k + l)); omega
  rw [wp_assume_of _ _ _ _ ⟨hin5, hin5⟩]
  iapply (wp_gather thr) $$ H9
  iintro H9
  iapply (wp_scatter thr) $$ H9
  iintro H9
  have hN : 16 * k + 16 ≤ NN := by show 16 * k + 16 ≤ 16384; omega
  have he : ∀ i, i < NN → b2 (g6 i) = d2 raw (unrk NN (L1 raw) i) := fun i hi => by rw [p6.at (tot1 raw) hi]; rfl
  have hd : ∀ l, l < 16 → (k0_pay23 (F := F) (k0_pay22 (F := F) (fun x => g6 (16 * k + (x 0).val)))
        (fun x => hvv F (fun j => T j + cnt (fun i => b2 (g6 i)) (16 * k) j) (k0_pay22 (F := F) (fun x => g6 (16 * k + (x 0).val)) x).toNat) (ln l)).toNat
      = rk NN (L2 raw) (unrk NN (L1 raw) (16 * k + l)) := fun l hl =>
    (congrArg BitVec.toNat (lane_dest (tot1 raw) (e := fun i => b2 (g6 i)) (d := d2 raw) he
      (fun i hi => by rw [he i hi]; exact hT _ (unrk_spec (tot1 raw) hi).1) hN h1 (fun l hl => rfl) l hl)).trans
      (toNat_rk (tot2 raw) (unrk_spec (tot1 raw) (show 16 * k + l < 16384 by omega)).1)
  have hinN : Inb 16384 _ := inb_of fun l hl => by
    rw [hd l hl]; exact rk_lt_n (tot2 raw) (unrk_spec (tot1 raw) (show 16 * k + l < 16384 by omega)).1
  rw [wp_assume_of _ _ _ _ hinN]
  iapply (wp_scatter thr) $$ H5
  iintro H5
  rw [wp_ret]
  imodintro
  isplitl [H6]
  · iexact H6
  isplitl [H7]
  · iexact H7
  isplitl [H9]
  · rw [scat_cnt _ _ (fun i => b2 (g6 i)) _ h1]; iexact H9
  · iexists _; isplitr
    swap
    · iexact H5
    · ipureintro
      refine place (tot1 raw) (tot2 raw) hN hd (fun l hl => ?_) p5
      have hi : 16 * k + l < NN := by show 16 * k + l < 16384; omega
      rw [pay24_val, ln_val hl, p6.at (tot1 raw) hi, p7.at (tot1 raw) hi]

theorem pass2_loop {l : Scf.Loop 32} {hok : l.OK} (ht : l.trips = 1024) (off : Fin l.trips → Fin 1 → ℕ) (hoff : ∀ k, off k 0 = 16 * k.val)
    {body : Fin l.trips → Unit → Prog (TpuEff nD τ sig (Elt F) Λ₀ thr.2) Unit}
    (hbody : ∀ k acc, ∃ hin hl6 hl7 hg hs h5 D1 D2, body k acc = pass2Step thr A5 A6 A7 A9 (off k) hin hl6 hl7 hg hs h5 D1 D2)
    (raw : ℕ → BitVec 32) (T : ℕ → ℕ) (hT : ∀ i, i < NN → T (d2 raw i) = below (d2 raw) NN (d2 raw i))
    {init : Unit} {kk : Unit → Prog (TpuEff nD τ sig (Elt F) Λ₀ thr.2) α} :
    iprop((∃ g, ⌜Placed (L1 raw) (fun x => keyOf (raw x)) g⌝ ∗ Holds (F := F) thr A6 g)
        ∗ (∃ g, ⌜Placed (L1 raw) (fun x => BitVec.ofNat 32 x) g⌝ ∗ Holds (F := F) thr A7 g)
        ∗ Holds (F := F) thr A9 (hvv F T) ∗ (∃ g, Holds (F := F) thr A5 g))
      ⊢ iprop((∀ v, (∃ g, Holds (F := F) thr A6 g) -∗ (∃ g, Holds (F := F) thr A7 g)
            -∗ (∃ T', ⌜∀ j, 4096 ≤ j → T' j = T j⌝ ∗ Holds (F := F) thr A9 (hvv F T'))
            -∗ (∃ g, ⌜Placed (L2 raw) (word raw) g⌝ ∗ Holds (F := F) thr A5 g)
            -∗ wp frame (wpE defs 𝒱₀ thr none) Set.univ (kk v) Q)
        -∗ wp frame (wpE defs 𝒱₀ thr none) Set.univ (Scf.Loop.for l hok init body >>= kk) Q) := by
  iintro ⟨⟨%g6, %p6, H6⟩, ⟨%g7, %p7, H7⟩, H9, ⟨%g5, H5⟩⟩ Hk
  iapply (Scf.wp_for_bind frame (wpE defs 𝒱₀ thr none) Set.univ l.lb l.ub l.st hok init body
    (fun k _ => Inv2 (F := F) thr A5 A6 A7 A9 raw g6 g7 T k)
    (fun k acc => by
      obtain ⟨_, _, _, _, _, _, _, _, e⟩ := hbody k acc; rw [e]
      exact pass2_step thr raw g6 g7 T p6 p7 hT k.val (lt_of_lt_of_eq k.isLt ht) (hoff k))) $$ [H5 H9 H6 H7]
  · unfold Inv2
    isplitl [H6]
    · iexact H6
    isplitl [H7]
    · iexact H7
    isplitl [H9]
    · rw [show hvv F (fun j => T j + cnt (fun i => b2 (g6 i)) (16 * 0) j) = hvv F T from hvv_congr fun j => by rw [Nat.mul_zero, cnt_zero]; rfl]
      iexact H9
    · iexists g5; isplitr
      · ipureintro; exact fun x _ h => absurd h (by omega)
      · iexact H5
  iintro %v
  rw [show Scf.trips l.lb l.ub l.st = 1024 from ht]
  unfold Inv2
  iintro ⟨H6, H7, H9, ⟨%g5, %p5, H5⟩⟩
  iapply Hk $$ [H6] [H7] [H9] [H5]
  · iexists g6; iexact H6
  · iexists g7; iexact H7
  · iexists _; isplitr
    swap
    · iexact H9
    · ipureintro
      intro j hj
      rw [cnt_eq_zero fun x _ h => ?_]; rfl
      have := b2_lt (g6 x); omega
  · iexists g5; isplitr
    · ipureintro; exact Part.placed (tot1 raw) p5
    · iexact H5

/-! ## The third pass -/

/-- The rank of an element, less the mean of the ranks. -/
def cen (F : FTy → Type) [FloatOps F] (r : ℕ) : F .f32 :=
  FloatOps.subf (FloatOps.sitofp .f32 (BitVec.ofNat 32 r)) (Scalar.ofBits .f32 0x45FFFC00#32)

/-- One trip of the first column's third pass. -/
def pass3Step (A5 : Memref sig thr.2.kind .vmem S16384 .i32) (A8 : Memref sig thr.2.kind .vmem S16384 .f32) (A9 : Memref sig thr.2.kind .vmem S5120 .i32)
    (off : Fin 1 → ℕ) (hin : ∀ a, off a + S16.size a ≤ S16384.size a)
    (hl : A5.view.LoadsAt (Rect.unit (s := S16384) off S16.size hin).toLoadRect)
    (hg : A9.view.Loads) (hs : (A9.access (.whole S5120)).Stores Finset.univ) (h8 : (A8.access (.whole S16384)).Stores Finset.univ)
    (D1 : ∀ v, Decidable (Inb 16384 v)) (D2 : ∀ v, Decidable (Inb 5120 v ∧ Inb 5120 v)) :
    Prog (TpuEff nD τ sig (Elt F) Λ₀ thr.2) Unit :=
  .op (.load A5 (Rect.unit (s := S16384) off S16.size hin).toLoadRect hl) fun v =>
  .op (.assume (Inb 16384 (k0_pay26 v)) (D1 _)) fun h1 =>
  .op (.assume (Inb 5120 (k0_pay27 v) ∧ Inb 5120 (k0_pay27 v)) (D2 _)) fun h2 =>
  SparseCore.vectorLoadIdx A9 (![k0_pay27 v] : Fin 1 → IVec S16 32) h2.down.1 hg >>= fun c =>
  SparseCore.vectorStoreIdx (d := ![16]) A9 (![k0_pay27 v] : Fin 1 → IVec S16 32) (fun _ => 1#32) (fun _ => 1#1) true h2.down.2 hs >>= fun _ =>
  SparseCore.vectorStoreIdx (d := ![16]) A8 (![k0_pay26 v] : Fin 1 → IVec S16 32) (k0_pay28 (k0_pay27 v) c) (fun _ => 1#1) false h1.down h8 >>= fun _ =>
  .ret ⟨⟩

/-- One trip of the second column's third pass. -/
def accStep (A5 : Memref sig thr.2.kind .vmem S16384 .i32) (A8 : Memref sig thr.2.kind .vmem S16384 .f32) (A9 : Memref sig thr.2.kind .vmem S5120 .i32)
    (off : Fin 1 → ℕ) (hin : ∀ a, off a + S16.size a ≤ S16384.size a)
    (hl : A5.view.LoadsAt (Rect.unit (s := S16384) off S16.size hin).toLoadRect)
    (hg : A9.view.Loads) (hs : (A9.access (.whole S5120)).Stores Finset.univ) (h8 : A8.view.Loads)
    (D1 : ∀ v, Decidable (Inb 16384 v)) (D2 : ∀ v, Decidable (Inb 5120 v ∧ Inb 5120 v)) (acc : FVec F S16 .f32) :
    Prog (TpuEff nD τ sig (Elt F) Λ₀ thr.2) (FVec F S16 .f32) :=
  .op (.load A5 (Rect.unit (s := S16384) off S16.size hin).toLoadRect hl) fun v =>
  .op (.assume (Inb 16384 (k0_pay26 v)) (D1 _)) fun h1 =>
  .op (.assume (Inb 5120 (k0_pay27 v) ∧ Inb 5120 (k0_pay27 v)) (D2 _)) fun h2 =>
  SparseCore.vectorLoadIdx A9 (![k0_pay27 v] : Fin 1 → IVec S16 32) h2.down.1 hg >>= fun c =>
  SparseCore.vectorStoreIdx (d := ![16]) A9 (![k0_pay27 v] : Fin 1 → IVec S16 32) (fun _ => 1#32) (fun _ => 1#1) true h2.down.2 hs >>= fun _ =>
  SparseCore.vectorLoadIdx A8 (![k0_pay26 v] : Fin 1 → IVec S16 32) h1.down h8 >>= fun w =>
  .ret (k0_pay54 acc (k0_pay27 v) c w)

/-- The bin, in the third section, of the word at a place. -/
abbrev e3 (g5 : ℕ → BitVec 32) (i : ℕ) : ℕ := ((g5 i >>> 14) + 4096#32).toNat

theorem e3_eq (raw g5 : ℕ → BitVec 32) (p5 : Placed (L2 raw) (word raw) g5) {i : ℕ} (hi : i < NN) : e3 g5 i = d3 raw (unrk NN (L2 raw) i) := by
  unfold e3
  rw [p5.at (tot2 raw) hi]
  exact pack_bin _ (unrk_spec (tot2 raw) hi).1

/-- What a trip of the third pass computes of its sixteen words. -/
theorem pass3_facts (raw g5 : ℕ → BitVec 32) (T : ℕ → ℕ) (p5 : Placed (L2 raw) (word raw) g5)
    (hT : ∀ i, i < NN → T (d3 raw i) = below (d3 raw) NN (d3 raw i)) (k : ℕ) (hk : k < 1024) {v : Vec F S16 .i32} (hv : v = fun x => g5 (16 * k + (x 0).val)) :
    (∀ l, l < 16 → (k0_pay27 v (ln l)).toNat = e3 g5 (16 * k + l)) ∧ Inb 5120 (k0_pay27 v)
      ∧ (∀ l, l < 16 → (k0_pay26 v (ln l)).toNat = unrk NN (L2 raw) (16 * k + l)) ∧ Inb 16384 (k0_pay26 v)
      ∧ ∀ l, l < 16 → (subi (addi (fun x => hvv F (fun j => T j + cnt (e3 g5) (16 * k) j) (k0_pay27 v x).toNat : IVec S16 32) (scanCount (broadcast S16 1#1) (k0_pay27 v)).2) (broadcast S16 1#32)) (ln l)
          = BitVec.ofNat 32 (rk NN (L3 raw) (unrk NN (L2 raw) (16 * k + l))) := by
  subst hv
  have hN : 16 * k + 16 ≤ NN := by show 16 * k + 16 ≤ 16384; omega
  have hi : ∀ l, l < 16 → 16 * k + l < NN := fun l hl => by show 16 * k + l < 16384; omega
  have h1 : ∀ l, l < 16 → (k0_pay27 (F := F) (fun x => g5 (16 * k + (x 0).val)) (ln l)).toNat = e3 g5 (16 * k + l) := fun l hl => by
    have : (k0_pay27 (F := F) (fun x => g5 (16 * k + (x 0).val)) (ln l)).toNat = e3 g5 (16 * k + ((ln l) 0).val) := rfl
    rw [this, ln_val hl]
  have h2 : ∀ l, l < 16 → (k0_pay26 (F := F) (fun x => g5 (16 * k + (x 0).val)) (ln l)).toNat = unrk NN (L2 raw) (16 * k + l) := fun l hl =>
    pay26_val _ _ (by rw [ln_val hl]; exact p5.at (tot2 raw) (hi l hl)) (unrk_spec (tot2 raw) (hi l hl)).1
  refine ⟨h1, inb_of fun l hl => ?_, h2, inb_of fun l hl => ?_, fun l hl => ?_⟩
  · rw [h1 l hl, e3_eq raw g5 p5 (hi l hl)]; exact b3_lt _
  · rw [h2 l hl]; exact (unrk_spec (tot2 raw) (hi l hl)).1
  · exact lane_dest (tot2 raw) (e := e3 g5) (d := d3 raw) (fun i hi => e3_eq raw g5 p5 hi)
      (fun i hi => by rw [e3_eq raw g5 p5 hi]; exact hT _ (unrk_spec (tot2 raw) hi).1) hN h1 (fun l hl => rfl) l hl

/-- What holds after `k` trips of the first column's third pass. -/
def Inv3 (A5 : Memref sig thr.2.kind .vmem S16384 .i32) (A8 : Memref sig thr.2.kind .vmem S16384 .f32) (A9 : Memref sig thr.2.kind .vmem S5120 .i32)
    (raw g5 : ℕ → BitVec 32) (T : ℕ → ℕ) (k : ℕ) : sProp (MT nD τ sig (HIx 1) (Elt F) ℕ UU ℕ) :=
  iprop(Holds (F := F) thr A5 g5 ∗ Holds (F := F) thr A9 (hvv F fun j => T j + cnt (e3 g5) (16 * k) j)
    ∗ (∃ g, ⌜Part (L2 raw) L0 (fun x => cen F (rk NN (L3 raw) x)) (16 * k) g⌝ ∗ Holds (F := F) thr A8 g))

theorem pass3_step {off : Fin 1 → ℕ} {hin} {hl} {hg} {hs} {h8} {D1 D2} (raw g5 : ℕ → BitVec 32) (T : ℕ → ℕ) (p5 : Placed (L2 raw) (word raw) g5)
    (hT : ∀ i, i < NN → T (d3 raw i) = below (d3 raw) NN (d3 raw i)) (k : ℕ) (hk : k < 1024) (hoff : off 0 = 16 * k) :
    Inv3 (F := F) thr A5 A8 A9 raw g5 T k
      ⊢ wp frame (wpE defs 𝒱₀ thr none) Set.univ (pass3Step thr A5 A8 A9 off hin hl hg hs h8 D1 D2)
          (fun _ => Inv3 (F := F) thr A5 A8 A9 raw g5 T (k + 1)) := by
  unfold Inv3 pass3Step
  iintro ⟨H5, H9, ⟨%g8, %p8, H8⟩⟩
  iapply (wp_load16 thr (16 * k) hoff) $$ H5
  iintro H5
  obtain ⟨h1, hin5, h2, hinN, hd⟩ := pass3_facts (F := F) raw g5 T p5 hT k hk rfl
  rw [wp_assume_of _ _ _ _ hinN, wp_assume_of _ _ _ _ ⟨hin5, hin5⟩]
  iapply (wp_gather thr) $$ H9
  iintro H9
  iapply (wp_scatter thr) $$ H9
  iintro H9
  iapply (wp_scatter thr) $$ H8
  iintro H8
  rw [wp_ret]
  imodintro
  isplitl [H5]
  · iexact H5
  isplitl [H9]
  · rw [scat_cnt _ _ (e3 g5) _ h1]; iexact H9
  · iexists _; isplitr
    swap
    · iexact H8
    · ipureintro
      have hN : 16 * k + 16 ≤ NN := by show 16 * k + 16 ≤ 16384; omega
      refine place (tot2 raw) tot0 hN (fun l hl => ?_) (fun l hl => ?_) p8
      · have := (unrk_spec (tot2 raw) (show 16 * k + l < 16384 by omega)).1
        rw [h2 l hl, rk_id (le_of_lt this)]
      · exact congrArg (fun z => FloatOps.subf (FloatOps.sitofp .f32 z) (Scalar.ofBits .f32 0x45FFFC00#32)) (hd l hl)

theorem pass3_loop {l : Scf.Loop 32} {hok : l.OK} (ht : l.trips = 1024) (off : Fin l.trips → Fin 1 → ℕ) (hoff : ∀ k, off k 0 = 16 * k.val)
    {body : Fin l.trips → Unit → Prog (TpuEff nD τ sig (Elt F) Λ₀ thr.2) Unit}
    (hbody : ∀ k acc, ∃ hin hl hg hs h8 D1 D2, body k acc = pass3Step thr A5 A8 A9 (off k) hin hl hg hs h8 D1 D2)
    (raw : ℕ → BitVec 32) (T : ℕ → ℕ) (hT : ∀ i, i < NN → T (d3 raw i) = below (d3 raw) NN (d3 raw i))
    {init : Unit} {kk : Unit → Prog (TpuEff nD τ sig (Elt F) Λ₀ thr.2) α} :
    iprop((∃ g, ⌜Placed (L2 raw) (word raw) g⌝ ∗ Holds (F := F) thr A5 g)
        ∗ Holds (F := F) thr A9 (hvv F T) ∗ (∃ g, Holds (F := F) thr A8 g))
      ⊢ iprop((∀ v, (∃ g, Holds (F := F) thr A5 g) -∗ (∃ g, Holds (F := F) thr A9 g)
            -∗ (∃ g, ⌜∀ x, x < NN → g x = cen F (rk NN (L3 raw) x)⌝ ∗ Holds (F := F) thr A8 g)
            -∗ wp frame (wpE defs 𝒱₀ thr none) Set.univ (kk v) Q)
        -∗ wp frame (wpE defs 𝒱₀ thr none) Set.univ (Scf.Loop.for l hok init body >>= kk) Q) := by
  iintro ⟨⟨%g5, %p5, H5⟩, H9, ⟨%g8, H8⟩⟩ Hk
  iapply (Scf.wp_for_bind frame (wpE defs 𝒱₀ thr none) Set.univ l.lb l.ub l.st hok init body
    (fun k _ => Inv3 (F := F) thr A5 A8 A9 raw g5 T k)
    (fun k acc => by
      obtain ⟨_, _, _, _, _, _, _, e⟩ := hbody k acc; rw [e]
      exact pass3_step thr raw g5 T p5 hT k.val (lt_of_lt_of_eq k.isLt ht) (hoff k))) $$ [H5 H9 H8]
  · unfold Inv3
    isplitl [H5]
    · iexact H5
    isplitl [H9]
    · rw [show hvv F (fun j => T j + cnt (e3 g5) (16 * 0) j) = hvv F T from hvv_congr fun j => by rw [Nat.mul_zero, cnt_zero]; rfl]
      iexact H9
    · iexists g8; isplitr
      · ipureintro; exact fun x _ h => absurd h (by omega)
      · iexact H8
  iintro %v
  rw [show Scf.trips l.lb l.ub l.st = 1024 from ht]
  unfold Inv3
  iintro ⟨H5, H9, ⟨%g8, %p8, H8⟩⟩
  iapply Hk $$ [H5] [H9] [H8]
  · iexists g5; iexact H5
  · iexists _; iexact H9
  · iexists g8; isplitr
    · ipureintro
      intro x hx
      have := Part.placed (tot2 raw) p8 x hx
      rw [rk_id (le_of_lt hx)] at this
      exact this
    · iexact H8

/-- The lanes' sums after `k` trips of the second column's third pass. -/
def accAt (F : FTy → Type) [FloatOps F] (raw : ℕ → BitVec 32) (R : ℕ → F .f32) : ℕ → FVec F S16 .f32
  | 0 => k0_pay51
  | k + 1 => fun x => FloatOps.addf (accAt F raw R k x)
      (FloatOps.mulf (cen F (rk NN (L3 raw) (unrk NN (L2 raw) (16 * k + (x 0).val)))) (R (unrk NN (L2 raw) (16 * k + (x 0).val))))

/-- What holds after `k` trips of the second column's third pass. -/
def InvA (A5 : Memref sig thr.2.kind .vmem S16384 .i32) (A8 : Memref sig thr.2.kind .vmem S16384 .f32) (A9 : Memref sig thr.2.kind .vmem S5120 .i32)
    (raw g5 : ℕ → BitVec 32) (g8 R : ℕ → F .f32) (T : ℕ → ℕ) (k : ℕ) (acc : FVec F S16 .f32) : sProp (MT nD τ sig (HIx 1) (Elt F) ℕ UU ℕ) :=
  iprop(⌜acc = accAt F raw R k⌝ ∗ Holds (F := F) thr A5 g5 ∗ Holds (F := F) thr A9 (hvv F fun j => T j + cnt (e3 g5) (16 * k) j)
    ∗ Holds (F := F) thr A8 g8)

theorem acc_step {off : Fin 1 → ℕ} {hin} {hl} {hg} {hs} {h8} {D1 D2} (raw g5 : ℕ → BitVec 32) (g8 R : ℕ → F .f32) (hR : ∀ x, x < NN → g8 x = R x)
    (T : ℕ → ℕ) (p5 : Placed (L2 raw) (word raw) g5)
    (hT : ∀ i, i < NN → T (d3 raw i) = below (d3 raw) NN (d3 raw i)) (k : ℕ) (hk : k < 1024) (hoff : off 0 = 16 * k) (acc : FVec F S16 .f32) :
    InvA (F := F) thr A5 A8 A9 raw g5 g8 R T k acc
      ⊢ wp frame (wpE defs 𝒱₀ thr none) Set.univ (accStep thr A5 A8 A9 off hin hl hg hs h8 D1 D2 acc)
          (InvA (F := F) thr A5 A8 A9 raw g5 g8 R T (k + 1)) := by
  unfold InvA accStep
  iintro ⟨%hacc, H5, H9, H8⟩
  subst hacc
  iapply (wp_load16 thr (16 * k) hoff) $$ H5
  iintro H5
  obtain ⟨h1, hin5, h2, hinN, hd⟩ := pass3_facts (F := F) raw g5 T p5 hT k hk rfl
  rw [wp_assume_of _ _ _ _ hinN, wp_assume_of _ _ _ _ ⟨hin5, hin5⟩]
  iapply (wp_gather thr) $$ H9
  iintro H9
  iapply (wp_scatter thr) $$ H9
  iintro H9
  iapply (wp_gather thr) $$ H8
  iintro H8
  rw [wp_ret]
  imodintro
  isplitr
  · ipureintro
    funext x
    have hx : ln (x 0).val = x := ln_eq x
    have hl : (x 0).val < 16 := (x 0).isLt
    have e1 := hd _ hl
    have e2 := h2 _ hl
    rw [hx] at e1 e2
    have e3 := hR _ (unrk_spec (tot2 raw) (show 16 * k + (x 0).val < 16384 by omega)).1
    rw [← e2] at e3
    show FloatOps.addf (accAt F raw R k x) (FloatOps.mulf (FloatOps.subf (FloatOps.sitofp .f32 _) (Scalar.ofBits .f32 0x45FFFC00#32)) (g8 _)) = _
    refine congrArg (FloatOps.addf _) (congr (congrArg FloatOps.mulf ?_) ?_)
    · exact congrArg (fun z => FloatOps.subf (FloatOps.sitofp .f32 z) (Scalar.ofBits .f32 0x45FFFC00#32)) e1
    · exact e3.trans (congrArg R e2)
  isplitl [H5]
  · iexact H5
  isplitl [H9]
  · rw [scat_cnt _ _ (e3 g5) _ h1]; iexact H9
  · iexact H8

theorem acc_loop {l : Scf.Loop 32} {hok : l.OK} (ht : l.trips = 1024) (off : Fin l.trips → Fin 1 → ℕ) (hoff : ∀ k, off k 0 = 16 * k.val)
    {body : Fin l.trips → FVec F S16 .f32 → Prog (TpuEff nD τ sig (Elt F) Λ₀ thr.2) (FVec F S16 .f32)}
    (hbody : ∀ k acc, ∃ hin hl hg hs h8 D1 D2, body k acc = accStep thr A5 A8 A9 (off k) hin hl hg hs h8 D1 D2 acc)
    (raw : ℕ → BitVec 32) (R : ℕ → F .f32) (T : ℕ → ℕ) (hT : ∀ i, i < NN → T (d3 raw i) = below (d3 raw) NN (d3 raw i))
    {kk : FVec F S16 .f32 → Prog (TpuEff nD τ sig (Elt F) Λ₀ thr.2) α} :
    iprop((∃ g, ⌜Placed (L2 raw) (word raw) g⌝ ∗ Holds (F := F) thr A5 g)
        ∗ Holds (F := F) thr A9 (hvv F T) ∗ (∃ g, ⌜∀ x, x < NN → g x = R x⌝ ∗ Holds (F := F) thr A8 g))
      ⊢ iprop(((∃ g, Holds (F := F) thr A5 g) -∗ (∃ g, Holds (F := F) thr A9 g) -∗ (∃ g, Holds (F := F) thr A8 g)
            -∗ wp frame (wpE defs 𝒱₀ thr none) Set.univ (kk (accAt F raw R 1024)) Q)
        -∗ wp frame (wpE defs 𝒱₀ thr none) Set.univ (Scf.Loop.for l hok k0_pay51 body >>= kk) Q) := by
  iintro ⟨⟨%g5, %p5, H5⟩, H9, ⟨%g8, %hR, H8⟩⟩ Hk
  iapply (Scf.wp_for_bind frame (wpE defs 𝒱₀ thr none) Set.univ l.lb l.ub l.st hok k0_pay51 body
    (InvA (F := F) thr A5 A8 A9 raw g5 g8 R T)
    (fun k acc => by
      obtain ⟨_, _, _, _, _, _, _, e⟩ := hbody k acc; rw [e]
      exact acc_step thr raw g5 g8 R hR T p5 hT k.val (lt_of_lt_of_eq k.isLt ht) (hoff k) acc)) $$ [H5 H9 H8]
  · unfold InvA
    isplitr
    · ipureintro; rfl
    isplitl [H5]
    · iexact H5
    isplitl [H9]
    · rw [show hvv F (fun j => T j + cnt (e3 g5) (16 * 0) j) = hvv F T from hvv_congr fun j => by rw [Nat.mul_zero, cnt_zero]; rfl]
      iexact H9
    · iexact H8
  iintro %v
  rw [show Scf.trips l.lb l.ub l.st = 1024 from ht]
  unfold InvA
  iintro ⟨%hv, H5, H9, H8⟩
  subst hv
  iapply Hk $$ [H5] [H9] [H8]
  · iexists g5; iexact H5
  · iexists _; iexact H9
  · iexists g8; iexact H8

end Cert.Proof.Spearman
-- ==== Proof.Column.lean ====
/-
  One column of the tile's work: a column of the targets fetched and ranked, the centred ranks kept; the same
  column of the predictions fetched and ranked, each lane's products of centred ranks added up.
-/
module

public import proofs.«01_k».proof.Proof.Copies
public import proofs.«01_k».proof.Proof.Passes

@[expose] public section

noncomputable section

namespace Cert.Proof.Spearman

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] {defs : Defs nD τ sig (Elt F) Λ₀} (d : Dev nD) (i : grid0.Coords)
variable {α : Type} {Q : α → sProp (MT nD τ sig (HIx 1) (Elt F) ℕ UU ℕ)}

abbrev cV (i : grid0.Coords) : Fin τ.nSC := (i 0).castLE hcore0
abbrev jV (i : grid0.Coords) : Fin τ.nSub := (i 1).castLE hsub0

variable {a2 : Memref sig .scVector .hbm S128x16384 .i32} {ha2 : a2.IsWhole} {a3 : Memref sig .scVector .hbm S128x16384 .i32} {ha3 : a3.IsWhole}
  {a4 : Memref sig .scVector .hbm S32x16 .f32} {ha4 : a4.IsWhole}
  {a5 : Memref sig .scVector .vmem S16384 .i32} {ha5 : a5.IsWhole} {a6 : Memref sig .scVector .vmem S16384 .i32} {ha6 : a6.IsWhole}
  {a7 : Memref sig .scVector .vmem S16384 .i32} {ha7 : a7.IsWhole} {a8 : Memref sig .scVector .vmem S16384 .f32} {ha8 : a8.IsWhole}
  {a9 : Memref sig .scVector .vmem S5120 .i32} {ha9 : a9.IsWhole} {a10 : Memref sig .scVector .vmem S16 .f32} {ha10 : a10.IsWhole}
  {s0 s1 s2 : DmaSems sig S_}

/-- The row of the transposed arrays that column `k` of tile `i` reads. -/
def rowOf (i : grid0.Coords) (k : ℕ) : ℕ := 8 * (i 1).val + 4 * (i 0).val + k

theorem ranked_table (raw : ℕ → BitVec 32) : table raw = scanned 4096 (16 * 64) (scanned 2048 (16 * 128) (scanned 0 (16 * 128) (counts raw NN))) := rfl

theorem part1 (t : Fin k0_t1_loop.trips) (v1 : BitVec 32) {q : PosShare TreeShare} (O : CellTallies nD τ sig (HIx 1)) (W : Waits sig (HIx 1))
    {f : Buf (Elt F) (a3.view.loc (V d (cV i) (jV i)))} (raw : ℕ → BitVec 32)
    (hraw : (fun x => a3.view.read (Elt F) f (at2 (rowOf i t.val) x)) = raw)
    {k : (Σ' (v22 : IVec S16 32), IVec S16 32) → Prog (TpuEff nD τ sig (Elt F) Λ₀ (.scVector (cV i) (jV i))) α} :
    iprop(Transfers.MayWaits (V d (cV i) (jV i)) (none : HIx 1) O ∗ (a3.view.loc (V d (cV i) (jV i)) ↦[Finset.univ]{q} f)
        ∗ (∃ g, Holds (F := F) (V d (cV i) (jV i)) a5 g) ∗ (∃ g, Holds (F := F) (V d (cV i) (jV i)) a9 g)
        ∗ semVal ((V d (cV i) (jV i)), SemLoc.dma s0.sem) 0 ∗ Owed (F := F) (V d (cV i) (jV i)) O W)
      ⊢ iprop(((a3.view.loc (V d (cV i) (jV i)) ↦[Finset.univ]{q} f)
            -∗ Holds (F := F) (V d (cV i) (jV i)) a5 raw
            -∗ Holds (F := F) (V d (cV i) (jV i)) a9 (hvv F (table raw))
            -∗ semVal ((V d (cV i) (jV i)), SemLoc.dma s0.sem) 0 -∗ Owed (F := F) (V d (cV i) (jV i)) O W
            -∗ wp frame (wpE defs 𝒱₀ (V d (cV i) (jV i)) none) Set.univ (k ⟨iota .scVector S16 32 [0] iota_S16_d0_w32_scVector, k0_pay16⟩) Q)
        -∗ wp frame (wpE defs 𝒱₀ (V d (cV i) (jV i)) none) Set.univ
            (k0_part1 i a2 ha2 a3 ha3 a4 ha4 a5 ha5 a6 ha6 a7 ha7 a8 ha8 a9 ha9 a10 ha10 s0 s1 s2 v1 0#32 1#32 t >>= k) Q) := by
  subst hraw
  rw [k0_part1_eq_skeleton]; unfold k0_part1_skel
  simp only [Prog.lift, Prog.bind_op, Prog.bind_ret, Prog.pure_eq_ret, Prog.bind_assoc]
  iintro ⟨#Hmw, Hx, H5, H9, Hsem, HO⟩ Hk
  iapply (wp_fetch d (cV i) (jV i) a3 a5 s0.sem O W (rowOf i t.val) (k0_off1_eq i t)) $$ [Hx H5 Hsem HO]
  · isplitr; · iexact Hmw
    isplitl [Hx]; · iexact Hx
    isplitl [H5]; · iexact H5
    isplitl [Hsem]; · iexact Hsem
    iexact HO
  iintro Hx H5 Hsem HO
  iapply (clear_loop (V d (cV i) (jV i)) (by decide +kernel) (fun k r => k0_off2 k (BitVec.ofNat 32 (16 * r.val)))
    (fun k r => congrFun (k0_off2_eq k r) 0)
    (fun k acc => ⟨fun r => k0_off2_inb k r, fun r => View.loadsAt_vmem h_S16, fun r => View.stores_vmem_bits_univ h_S16 rfl, fun r => .inl rfl, rfl⟩)) $$ H9
  iintro %v H9
  iapply (sweep_loop (V d (cV i) (jV i)) (by decide +kernel) k0_off3 (fun k => congrFun (k0_off3_eq k) 0) (fun k acc => ⟨_, _, _, _, _, _, rfl⟩)
    (fun x => a3.view.read (Elt F) f (at2 (rowOf i t.val) x))) $$ [H5 H9]
  · isplitl [H5]; · iexact H5
    iexact H9
  iintro %v H5 H9
  iapply (scan_loop (V d (cV i) (jV i)) 0 128 (by decide +kernel) k0_off4 (fun k => (congrFun (k0_off4_eq k) 0).trans (Nat.zero_add _).symm) (fun k acc => ⟨_, _, _, _, rfl⟩)
    (counts (fun x => a3.view.read (Elt F) f (at2 (rowOf i t.val) x)) NN)) $$ H9
  iintro %v H9
  iapply (scan_loop (V d (cV i) (jV i)) 2048 128 (by decide +kernel) k0_off5 (fun k => (congrFun (k0_off5_eq k) 0).trans (Nat.add_comm _ _)) (fun k acc => ⟨_, _, _, _, rfl⟩) _) $$ H9
  iintro %v H9
  iapply (scan_loop (V d (cV i) (jV i)) 4096 64 (by decide +kernel) k0_off6 (fun k => (congrFun (k0_off6_eq k) 0).trans (Nat.add_comm _ _)) (fun k acc => ⟨_, _, _, _, rfl⟩) _) $$ H9
  iintro %v H9
  iapply Hk $$ [Hx] [H5] [H9] [Hsem] [HO]
  · iexact Hx
  · iexact H5
  · iexact H9
  · iexact Hsem
  · iexact HO

theorem part2 (t : Fin k0_t1_loop.trips) {q : PosShare TreeShare} (O : CellTallies nD τ sig (HIx 1)) (W : Waits sig (HIx 1))
    {f : Buf (Elt F) (a2.view.loc (V d (cV i) (jV i)))} (rawT raw : ℕ → BitVec 32)
    (hraw : (fun x => a2.view.read (Elt F) f (at2 (rowOf i t.val) x)) = raw)
    {k : (Σ' (v35 : IVec S16 32) (c0_i32_52 : BitVec 32), BitVec 32) → Prog (TpuEff nD τ sig (Elt F) Λ₀ (.scVector (cV i) (jV i))) α} :
    iprop(Transfers.MayWaits (V d (cV i) (jV i)) (none : HIx 1) O ∗ (a2.view.loc (V d (cV i) (jV i)) ↦[Finset.univ]{q} f)
        ∗ Holds (F := F) (V d (cV i) (jV i)) a5 rawT ∗ Holds (F := F) (V d (cV i) (jV i)) a9 (hvv F (table rawT))
        ∗ (∃ g, Holds (F := F) (V d (cV i) (jV i)) a6 g) ∗ (∃ g, Holds (F := F) (V d (cV i) (jV i)) a7 g) ∗ (∃ g, Holds (F := F) (V d (cV i) (jV i)) a8 g)
        ∗ semVal ((V d (cV i) (jV i)), SemLoc.dma s1.sem) 0 ∗ Owed (F := F) (V d (cV i) (jV i)) O W)
      ⊢ iprop(((a2.view.loc (V d (cV i) (jV i)) ↦[Finset.univ]{q} f)
            -∗ Holds (F := F) (V d (cV i) (jV i)) a5 raw
            -∗ Holds (F := F) (V d (cV i) (jV i)) a9 (hvv F fun _ => 0)
            -∗ (∃ g, Holds (F := F) (V d (cV i) (jV i)) a6 g) -∗ (∃ g, Holds (F := F) (V d (cV i) (jV i)) a7 g)
            -∗ (∃ g, ⌜∀ x, x < NN → g x = cen F (rk NN (L3 rawT) x)⌝ ∗ Holds (F := F) (V d (cV i) (jV i)) a8 g)
            -∗ semVal ((V d (cV i) (jV i)), SemLoc.dma s1.sem) 0 -∗ Owed (F := F) (V d (cV i) (jV i)) O W
            -∗ wp frame (wpE defs 𝒱₀ (V d (cV i) (jV i)) none) Set.univ (k ⟨k0_pay30, 0#32, 0#32⟩) Q)
        -∗ wp frame (wpE defs 𝒱₀ (V d (cV i) (jV i)) none) Set.univ
            (k0_part2 i a2 ha2 a3 ha3 a4 ha4 a5 ha5 a6 ha6 a7 ha7 a8 ha8 a9 ha9 a10 ha10 s0 s1 s2 t
              (iota .scVector S16 32 [0] iota_S16_d0_w32_scVector) k0_pay16 >>= k) Q) := by
  subst hraw
  rw [k0_part2_eq_skeleton]; unfold k0_part2_skel
  simp only [Prog.lift, Prog.bind_op, Prog.bind_ret, Prog.pure_eq_ret, Prog.bind_assoc]
  iintro ⟨#Hmw, Hx, H5, H9, H6, H7, H8, Hsem, HO⟩ Hk
  iapply (pass1_loop (V d (cV i) (jV i)) (by decide +kernel) k0_off7 (fun k => congrFun (k0_off7_eq k) 0)
    (fun k => k0_pay18 (iota .scVector S16 32 [0] iota_S16_d0_w32_scVector) k) (fun k l hl => pay18_val k.val _ l hl)
    (fun k acc => ⟨_, _, View.loads_vmem h_S5120, _, _, _, _, _, rfl⟩) rawT (table rawT) (fun x _ => table1 rawT _ (b1_lt _))) $$ [H5 H9 H6 H7]
  · isplitl [H5]; · iexact H5
    isplitl [H9]; · iexact H9
    isplitl [H6]; · iexact H6
    iexact H7
  iintro %v H5 ⟨%T1, %hT1, H9⟩ H6 H7
  iapply (pass2_loop (V d (cV i) (jV i)) (by decide +kernel) k0_off8 (fun k => congrFun (k0_off8_eq k) 0)
    (fun k acc => ⟨_, _, _, View.loads_vmem h_S5120, _, _, _, _, rfl⟩) rawT T1 (fun x _ => (hT1 _ (b2_ge _)).trans (table2 rawT _ (b2_ge _) (b2_lt _)))) $$ [H5 H9 H6 H7]
  · isplitl [H6]; · iexact H6
    isplitl [H7]; · iexact H7
    isplitl [H9]; · iexact H9
    iexists rawT; iexact H5
  iintro %v H6 H7 ⟨%T2, %hT2, H9⟩ H5
  iapply (pass3_loop (V d (cV i) (jV i)) (by decide +kernel) k0_off9 (fun k => congrFun (k0_off9_eq k) 0)
    (fun k acc => ⟨_, _, View.loads_vmem h_S5120, _, _, _, _, rfl⟩) rawT T2
    (fun x _ => (hT2 _ (b3_ge _)).trans ((hT1 _ (le_trans (by decide) (b3_ge _))).trans (table3 rawT _ (b3_ge _) (b3_lt _))))) $$ [H5 H9 H8]
  · isplitl [H5]; · iexact H5
    isplitl [H9]; · iexact H9
    iexact H8
  iintro %v H5 H9 H8
  iapply (wp_fetch d (cV i) (jV i) a2 a5 s1.sem O W (rowOf i t.val) (k0_off1_eq i t)) $$ [Hx H5 Hsem HO]
  · isplitr; · iexact Hmw
    isplitl [Hx]; · iexact Hx
    isplitl [H5]; · iexact H5
    isplitl [Hsem]; · iexact Hsem
    iexact HO
  iintro Hx H5 Hsem HO
  iapply (clear_loop (V d (cV i) (jV i)) (by decide +kernel) (fun k r => k0_off10 k (BitVec.ofNat 32 (16 * r.val)))
    (fun k r => congrFun (k0_off10_eq k r) 0)
    (fun k acc => ⟨fun r => k0_off10_inb k r, fun r => View.loadsAt_vmem h_S16, fun r => View.stores_vmem_bits_univ h_S16 rfl, fun r => .inl rfl, rfl⟩)) $$ H9
  iintro %v H9
  iapply Hk $$ [Hx] [H5] [H9] [H6] [H7] [H8] [Hsem] [HO]
  · iexact Hx
  · iexact H5
  · iexact H9
  · iexact H6
  · iexact H7
  · iexact H8
  · iexact Hsem
  · iexact HO

theorem part3 (t : Fin k0_t1_loop.trips) (v1 : BitVec 32) {q : PosShare TreeShare} (O : CellTallies nD τ sig (HIx 1)) (W : Waits sig (HIx 1))
    {f2 : Buf (Elt F) (a2.view.loc (V d (cV i) (jV i)))} {f3 : Buf (Elt F) (a3.view.loc (V d (cV i) (jV i)))} (rawT raw : ℕ → BitVec 32)
    (hraw : (fun x => a2.view.read (Elt F) f2 (at2 (rowOf i t.val) x)) = raw) (hrawT : (fun x => a3.view.read (Elt F) f3 (at2 (rowOf i t.val) x)) = rawT)
    {k : FVec F S16 .f32 → Prog (TpuEff nD τ sig (Elt F) Λ₀ (.scVector (cV i) (jV i))) α} :
    iprop(Transfers.MayWaits (V d (cV i) (jV i)) (none : HIx 1) O
        ∗ (a2.view.loc (V d (cV i) (jV i)) ↦[Finset.univ]{q} f2) ∗ (a3.view.loc (V d (cV i) (jV i)) ↦[Finset.univ]{q} f3)
        ∗ (∃ g, Holds (F := F) (V d (cV i) (jV i)) a5 g)
        ∗ (∃ g, Holds (F := F) (V d (cV i) (jV i)) a6 g) ∗ (∃ g, Holds (F := F) (V d (cV i) (jV i)) a7 g) ∗ (∃ g, Holds (F := F) (V d (cV i) (jV i)) a8 g)
        ∗ (∃ g, Holds (F := F) (V d (cV i) (jV i)) a9 g)
        ∗ semVal ((V d (cV i) (jV i)), SemLoc.dma s0.sem) 0 ∗ semVal ((V d (cV i) (jV i)), SemLoc.dma s1.sem) 0 ∗ Owed (F := F) (V d (cV i) (jV i)) O W)
      ⊢ iprop(((a2.view.loc (V d (cV i) (jV i)) ↦[Finset.univ]{q} f2) -∗ (a3.view.loc (V d (cV i) (jV i)) ↦[Finset.univ]{q} f3)
            -∗ (∃ g, Holds (F := F) (V d (cV i) (jV i)) a5 g)
            -∗ (∃ g, Holds (F := F) (V d (cV i) (jV i)) a6 g) -∗ (∃ g, Holds (F := F) (V d (cV i) (jV i)) a7 g) -∗ (∃ g, Holds (F := F) (V d (cV i) (jV i)) a8 g)
            -∗ (∃ g, Holds (F := F) (V d (cV i) (jV i)) a9 g)
            -∗ semVal ((V d (cV i) (jV i)), SemLoc.dma s0.sem) 0 -∗ semVal ((V d (cV i) (jV i)), SemLoc.dma s1.sem) 0 -∗ Owed (F := F) (V d (cV i) (jV i)) O W
            -∗ wp frame (wpE defs 𝒱₀ (V d (cV i) (jV i)) none) Set.univ (k (accAt F raw (fun x => cen F (rk NN (L3 rawT) x)) 1024)) Q)
        -∗ wp frame (wpE defs 𝒱₀ (V d (cV i) (jV i)) none) Set.univ
            (k0_part3 i a2 ha2 a3 ha3 a4 ha4 a5 ha5 a6 ha6 a7 ha7 a8 ha8 a9 ha9 a10 ha10 s0 s1 s2 v1 0#32 1#32 t >>= k) Q) := by
  rw [k0_part3_eq_skeleton]; unfold k0_part3_skel
  simp only [Prog.lift, Prog.bind_op, Prog.bind_ret, Prog.pure_eq_ret, Prog.bind_assoc]
  iintro ⟨#Hmw, Hx2, Hx3, H5, H6, H7, H8, H9, Hs0, Hs1, HO⟩ Hk
  iapply (part1 d i t v1 O W rawT hrawT) $$ [Hx3 H5 H9 Hs0 HO]
  · isplitr; · iexact Hmw
    isplitl [Hx3]; · iexact Hx3
    isplitl [H5]; · iexact H5
    isplitl [H9]; · iexact H9
    isplitl [Hs0]; · iexact Hs0
    iexact HO
  iintro Hx3 H5 H9 Hs0 HO
  iapply (part2 d i t O W rawT raw hraw) $$ [Hx2 H5 H9 H6 H7 H8 Hs1 HO]
  · isplitr; · iexact Hmw
    isplitl [Hx2]; · iexact Hx2
    isplitl [H5]; · iexact H5
    isplitl [H9]; · iexact H9
    isplitl [H6]; · iexact H6
    isplitl [H7]; · iexact H7
    isplitl [H8]; · iexact H8
    isplitl [Hs1]; · iexact Hs1
    iexact HO
  iintro Hx2 H5 H9 H6 H7 H8 Hs1 HO
  iapply (sweep_loop (V d (cV i) (jV i)) (by decide +kernel) k0_off11 (fun k => congrFun (k0_off11_eq k) 0) (fun k acc => ⟨_, _, _, _, _, _, rfl⟩)
    raw) $$ [H5 H9]
  · isplitl [H5]; · iexact H5
    iexact H9
  iintro %v H5 H9
  iapply (scan_loop (V d (cV i) (jV i)) 0 128 (by decide +kernel) k0_off12 (fun k => (congrFun (k0_off12_eq k) 0).trans (Nat.zero_add _).symm) (fun k acc => ⟨_, _, _, _, rfl⟩)
    (counts raw NN)) $$ H9
  iintro %v H9
  iapply (scan_loop (V d (cV i) (jV i)) 2048 128 (by decide +kernel) k0_off13 (fun k => (congrFun (k0_off13_eq k) 0).trans (Nat.add_comm _ _)) (fun k acc => ⟨_, _, _, _, rfl⟩) _) $$ H9
  iintro %v H9
  iapply (scan_loop (V d (cV i) (jV i)) 4096 64 (by decide +kernel) k0_off14 (fun k => (congrFun (k0_off14_eq k) 0).trans (Nat.add_comm _ _)) (fun k acc => ⟨_, _, _, _, rfl⟩) _) $$ H9
  iintro %v H9
  iapply (pass1_loop (V d (cV i) (jV i)) (by decide +kernel) k0_off15 (fun k => congrFun (k0_off15_eq k) 0)
    (fun k => k0_pay43 k) (fun k l hl => pay18_val k.val _ l hl)
    (fun k acc => ⟨_, _, View.loads_vmem h_S5120, _, _, _, _, _, rfl⟩) raw (table raw) (fun x _ => table1 raw _ (b1_lt _))) $$ [H5 H9 H6 H7]
  · isplitl [H5]; · iexact H5
    isplitl [H9]; · iexact H9
    isplitl [H6]; · iexact H6
    iexact H7
  iintro %v H5 ⟨%T1, %hT1, H9⟩ H6 H7
  iapply (pass2_loop (V d (cV i) (jV i)) (by decide +kernel) k0_off16 (fun k => congrFun (k0_off16_eq k) 0)
    (fun k acc => ⟨_, _, _, View.loads_vmem h_S5120, _, _, _, _, rfl⟩) raw T1 (fun x _ => (hT1 _ (b2_ge _)).trans (table2 raw _ (b2_ge _) (b2_lt _)))) $$ [H5 H9 H6 H7]
  · isplitl [H6]; · iexact H6
    isplitl [H7]; · iexact H7
    isplitl [H9]; · iexact H9
    iexists raw; iexact H5
  iintro %v H6 H7 ⟨%T2, %hT2, H9⟩ H5
  iapply (acc_loop (V d (cV i) (jV i)) (by decide +kernel) k0_off17 (fun k => congrFun (k0_off17_eq k) 0)
    (fun k acc => ⟨_, _, View.loads_vmem h_S5120, _, View.loads_vmem h_S16384, _, _, rfl⟩) raw (fun x => cen F (rk NN (L3 rawT) x)) T2
    (fun x _ => (hT2 _ (b3_ge _)).trans ((hT1 _ (le_trans (by decide) (b3_ge _))).trans (table3 raw _ (b3_ge _) (b3_lt _))))) $$ [H5 H9 H8]
  · isplitl [H5]; · iexact H5
    isplitl [H9]; · iexact H9
    iexact H8
  iintro H5 H9 H8
  iapply Hk $$ [Hx2] [Hx3] [H5] [H6] [H7] [H8] [H9] [Hs0] [Hs1] [HO]
  · iexact Hx2
  · iexact Hx3
  · iexact H5
  · icases H6 with ⟨%g6, H6⟩
    iexists g6; iexact H6
  · icases H7 with ⟨%g7, H7⟩
    iexists g7; iexact H7
  · iexact H8
  · iexact H9
  · iexact Hs0
  · iexact Hs1
  · iexact HO

end Cert.Proof.Spearman
-- ==== Proof.Tile.lean ====
/-
  A tile's whole body: its four columns in turn, each lane's sums added up, the sums scaled and written to the
  tile's row of the output.
-/
module

public import proofs.«01_k».proof.Proof.Column

@[expose] public section

noncomputable section

namespace Cert.Proof.Spearman

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-- Row `r` of an array as a function of the position. -/
def rowFn (f : S128x16384.Idx → BitVec 32) (r : ℕ) : ℕ → BitVec 32 := fun x => f (at2 r x)

/-- The lanes' sums of products of centred ranks over one column. -/
def colSum (F : FTy → Type) [FloatOps F] (p t : ℕ → BitVec 32) : FVec F S16 .f32 := accAt F p (fun x => cen F (rk NN (L3 t) x)) 1024

/-- The lanes' sums after `k` of the columns from `r` on. -/
def tileAcc (F : FTy → Type) [FloatOps F] (fp ft : S128x16384.Idx → BitVec 32) (r : ℕ) : ℕ → FVec F S16 .f32
  | 0 => k0_pay1
  | k + 1 => k0_pay2 (tileAcc F fp ft r k) (colSum F (rowFn fp (r + k)) (rowFn ft (r + k)))

/-- What the tile of columns `r … r + 3` writes out. -/
def tileOut (F : FTy → Type) [FloatOps F] [Named F] (fp ft : S128x16384.Idx → BitVec 32) (r : ℕ) : FVec F S16 .f32 := k0_pay3 (tileAcc F fp ft r 4)

variable {defs : Defs nD τ sig (Elt F) Λ₀} (d : Dev nD) (i : grid0.Coords)

variable {a2 : Memref sig .scVector .hbm S128x16384 .i32} {ha2 : a2.IsWhole} {a3 : Memref sig .scVector .hbm S128x16384 .i32} {ha3 : a3.IsWhole}
  {a4 : Memref sig .scVector .hbm S32x16 .f32} {ha4 : a4.IsWhole}
  {a5 : Memref sig .scVector .vmem S16384 .i32} {ha5 : a5.IsWhole} {a6 : Memref sig .scVector .vmem S16384 .i32} {ha6 : a6.IsWhole}
  {a7 : Memref sig .scVector .vmem S16384 .i32} {ha7 : a7.IsWhole} {a8 : Memref sig .scVector .vmem S16384 .f32} {ha8 : a8.IsWhole}
  {a9 : Memref sig .scVector .vmem S5120 .i32} {ha9 : a9.IsWhole} {a10 : Memref sig .scVector .vmem S16 .f32} {ha10 : a10.IsWhole}
  {s0 s1 s2 : DmaSems sig S_}

/-- The tile's scratch arrays and semaphores between its steps. -/
def Scratch (a5 : Memref sig .scVector .vmem S16384 .i32) (a6 : Memref sig .scVector .vmem S16384 .i32) (a7 : Memref sig .scVector .vmem S16384 .i32)
    (a8 : Memref sig .scVector .vmem S16384 .f32) (a9 : Memref sig .scVector .vmem S5120 .i32) (s0 s1 : DmaSems sig S_)
    (O : CellTallies nD τ sig (HIx 1)) (W : Waits sig (HIx 1)) : sProp (MT nD τ sig (HIx 1) (Elt F) ℕ UU ℕ) :=
  iprop((∃ g, Holds (F := F) (V d (cV i) (jV i)) a5 g)
        ∗ (∃ g, Holds (F := F) (V d (cV i) (jV i)) a6 g) ∗ (∃ g, Holds (F := F) (V d (cV i) (jV i)) a7 g) ∗ (∃ g, Holds (F := F) (V d (cV i) (jV i)) a8 g)
        ∗ (∃ g, Holds (F := F) (V d (cV i) (jV i)) a9 g)
        ∗ semVal ((V d (cV i) (jV i)), SemLoc.dma s0.sem) 0 ∗ semVal ((V d (cV i) (jV i)), SemLoc.dma s1.sem) 0 ∗ Owed (F := F) (V d (cV i) (jV i)) O W)

/-- What holds after `k` columns. -/
def ColInv (a2 a3 : Memref sig .scVector .hbm S128x16384 .i32) (q : PosShare TreeShare)
    (f2 : Buf (Elt F) (a2.view.loc (V d (cV i) (jV i)))) (f3 : Buf (Elt F) (a3.view.loc (V d (cV i) (jV i)))) (R : sProp (MT nD τ sig (HIx 1) (Elt F) ℕ UU ℕ))
    (O : CellTallies nD τ sig (HIx 1)) (k : ℕ) (acc : FVec F S16 .f32) : sProp (MT nD τ sig (HIx 1) (Elt F) ℕ UU ℕ) :=
  iprop(⌜acc = tileAcc F (a2.view.read (Elt F) f2) (a3.view.read (Elt F) f3) (rowOf i 0) k⌝
    ∗ Transfers.MayWaits (V d (cV i) (jV i)) (none : HIx 1) O
    ∗ (a2.view.loc (V d (cV i) (jV i)) ↦[Finset.univ]{q} f2) ∗ (a3.view.loc (V d (cV i) (jV i)) ↦[Finset.univ]{q} f3) ∗ R)

theorem tile (O : CellTallies nD τ sig (HIx 1)) (W : Waits sig (HIx 1)) {q : PosShare TreeShare}
    {f2 : Buf (Elt F) (a2.view.loc (V d (cV i) (jV i)))} {f3 : Buf (Elt F) (a3.view.loc (V d (cV i) (jV i)))} {f4 : Buf (Elt F) (a4.view.loc (V d (cV i) (jV i)))} :
    iprop(Transfers.MayWaits (V d (cV i) (jV i)) (none : HIx 1) O
        ∗ (a2.view.loc (V d (cV i) (jV i)) ↦[Finset.univ]{q} f2) ∗ (a3.view.loc (V d (cV i) (jV i)) ↦[Finset.univ]{q} f3)
        ∗ (((a4.slice (Rect.unit (s := S32x16) (k0_off18 i) S1x16.size (k0_off18_inb i)) (fun _ => rfl)).squeeze S16 squeezes_S1x16_S16).view.loc (V d (cV i) (jV i))
            ↦[((a4.slice (Rect.unit (s := S32x16) (k0_off18 i) S1x16.size (k0_off18_inb i)) (fun _ => rfl)).squeeze S16 squeezes_S1x16_S16).view.set]{fullShare} f4)
        ∗ Scratch d i a5 a6 a7 a8 a9 s0 s1 O W ∗ (∃ g, Holds (F := F) (V d (cV i) (jV i)) a10 g) ∗ semVal ((V d (cV i) (jV i)), SemLoc.dma s2.sem) 0)
      ⊢ wp frame (wpE defs 𝒱₀ (V d (cV i) (jV i)) none) Set.univ
          (cc0__sc_spearman i a2 ha2 a3 ha3 a4 ha4 a5 ha5 a6 ha6 a7 ha7 a8 ha8 a9 ha9 a10 ha10 s0 s1 s2)
          fun _ => iprop((a2.view.loc (V d (cV i) (jV i)) ↦[Finset.univ]{q} f2) ∗ (a3.view.loc (V d (cV i) (jV i)) ↦[Finset.univ]{q} f3)
            ∗ (∃ f', ⌜((a4.slice (Rect.unit (s := S32x16) (k0_off18 i) S1x16.size (k0_off18_inb i)) (fun _ => rfl)).squeeze S16 squeezes_S1x16_S16).view.read (Elt F) f'
                  = tileOut F (a2.view.read (Elt F) f2) (a3.view.read (Elt F) f3) (rowOf i 0)⌝
              ∗ (((a4.slice (Rect.unit (s := S32x16) (k0_off18 i) S1x16.size (k0_off18_inb i)) (fun _ => rfl)).squeeze S16 squeezes_S1x16_S16).view.loc (V d (cV i) (jV i))
            ↦[((a4.slice (Rect.unit (s := S32x16) (k0_off18 i) S1x16.size (k0_off18_inb i)) (fun _ => rfl)).squeeze S16 squeezes_S1x16_S16).view.set]{fullShare} f'))
            ∗ Scratch d i a5 a6 a7 a8 a9 s0 s1 O W ∗ (∃ g, Holds (F := F) (V d (cV i) (jV i)) a10 g) ∗ semVal ((V d (cV i) (jV i)), SemLoc.dma s2.sem) 0) := by
  rw [cc0__sc_spearman_eq_skeleton]; unfold cc0__sc_spearman_skel
  simp only [Prog.lift, Prog.bind_op, Prog.bind_ret, Prog.pure_eq_ret, Prog.bind_assoc]
  iintro ⟨Hmw, H2, H3, H4, HS, ⟨%g10, H10⟩, Hs2⟩
  iapply (Scf.wp_for_bind frame (wpE defs 𝒱₀ (V d (cV i) (jV i)) none) Set.univ k0_t1_loop.lb k0_t1_loop.ub k0_t1_loop.st k0_t1_ok _ _
    (ColInv d i a2 a3 q f2 f3 (Scratch d i a5 a6 a7 a8 a9 s0 s1 O W) O)
    (fun k acc => by
      unfold k0_t1_body ColInv Scratch
      iintro ⟨%hacc, #Hmw, H2, H3, H5, H6, H7, H8, H9, Hs0, Hs1, HO⟩
      subst hacc
      iapply (part3 d i k _ O W _ _ rfl rfl) $$ [H2 H3 H5 H6 H7 H8 H9 Hs0 Hs1 HO]
      · isplitr; · iexact Hmw
        isplitl [H2]; · iexact H2
        isplitl [H3]; · iexact H3
        isplitl [H5]; · iexact H5
        isplitl [H6]; · iexact H6
        isplitl [H7]; · iexact H7
        isplitl [H8]; · iexact H8
        isplitl [H9]; · iexact H9
        isplitl [Hs0]; · iexact Hs0
        isplitl [Hs1]; · iexact Hs1
        iexact HO
      iintro H2 H3 H5 H6 H7 H8 H9 Hs0 Hs1 HO
      simp only [Prog.pure_eq_ret]
      rw [wp_ret]; imodintro
      isplitr
      · ipureintro; rfl
      isplitr; · iexact Hmw
      isplitl [H2]; · iexact H2
      isplitl [H3]; · iexact H3
      isplitl [H5]; · iexact H5
      isplitl [H6]; · iexact H6
      isplitl [H7]; · iexact H7
      isplitl [H8]; · iexact H8
      isplitl [H9]; · iexact H9
      isplitl [Hs0]; · iexact Hs0
      isplitl [Hs1]; · iexact Hs1
      iexact HO)) $$ [Hmw H2 H3 HS]
  · unfold ColInv
    isplitr
    · ipureintro; rfl
    isplitl [Hmw]; · iexact Hmw
    isplitl [H2]; · iexact H2
    isplitl [H3]; · iexact H3
    iexact HS
  iintro %v
  rw [show Scf.trips k0_t1_loop.lb k0_t1_loop.ub k0_t1_loop.st = 4 from by decide +kernel]
  unfold ColInv Scratch
  iintro ⟨%hv, #Hmw, H2, H3, H5, H6, H7, H8, H9, Hs0, Hs1, HO⟩
  subst hv
  iapply (wp_load16 (V d (cV i) (jV i)) 0 rfl) $$ H10
  iintro H10
  iapply (wp_store16 (V d (cV i) (jV i)) 0 rfl) $$ H10
  iintro H10
  iapply (wp_out d (cV i) (jV i) a4 a10 s2.sem O W _) $$ [H4 H10 Hs2 HO]
  · isplitr; · iexact Hmw
    isplitl [H4]; · iexact H4
    isplitl [H10]; · iexact H10
    isplitl [Hs2]; · iexact Hs2
    iexact HO
  iintro %f' %hf' H4 H10 Hs2 HO
  rw [wp_ret]; imodintro
  isplitl [H2]; · iexact H2
  isplitl [H3]; · iexact H3
  isplitl [H4]
  · iexists f'; isplitr
    · ipureintro
      rw [hf']
      funext x
      have hx : (x 0).val < 16 := (x 0).isLt
      show (if 0 ≤ (x 0).val ∧ (x 0).val < 0 + 16 then _ else _) = _
      rw [if_pos ⟨Nat.zero_le _, by omega⟩]
      exact congrArg _ (ln_eq x)
    · iexact H4
  isplitl [H5 H6 H7 H8 H9 Hs0 Hs1 HO]
  · isplitl [H5]; · iexact H5
    isplitl [H6]; · iexact H6
    isplitl [H7]; · iexact H7
    isplitl [H8]; · iexact H8
    isplitl [H9]; · iexact H9
    isplitl [Hs0]; · iexact Hs0
    isplitl [Hs1]; · iexact Hs1
    iexact HO
  isplitl [H10]
  · iexists _; iexact H10
  · iexact Hs2

end Cert.Proof.Spearman
-- ==== Proof.Launch.lean ====
/-
  What the one SparseCore call carries: every tile takes a read share of the two transposed arrays and its own row
  of the output, and brings the row back at its four columns' sums. The tile's obligation to the launch, and the
  deal of a SparseCore's part to its sixteen tiles.
-/
module

public import proofs.«01_k».proof.Proof.Tile

@[expose] public section

noncomputable section

namespace Cert.Proof.Spearman

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_zero : (K (F := F)).nSub 0 = 16 := rfl
abbrev D [FloatOps F] [Named F] : Defs nD τ sig (Elt F) (ΛP (F := F)) := Pipeline.defs pcfgs defs₀

theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

variable [FloatOps F] [Named F]

variable (m : (ℓ : Loc nD τ sig) → Buf (Elt F) ℓ)

/-! ## The arrays the call carries -/

abbrev aLoc (d : Dev nD) : Loc nD τ sig := (SparseCore.T d).loc main_arg0
abbrev bLoc (d : Dev nD) : Loc nD τ sig := (SparseCore.T d).loc main_arg1
abbrev pLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

/-- The transposed predictions and targets. -/
def pT (d : Dev nD) : S128x16384.Idx → BitVec 32 := transpose S128x16384 [1, 0] (m (aLoc d)) transposes_S16384x128_S128x16384_1_0
def tT (d : Dev nD) : S128x16384.Idx → BitVec 32 := transpose S128x16384 [1, 0] (m (bLoc d)) transposes_S16384x128_S128x16384_1_0

/-- The output: row `w` holds the sums of columns `4 w … 4 w + 3`. -/
def outF (d : Dev nD) : FVec F S32x16 .f32 := fun j => tileOut F (pT m d) (tT m d) (4 * (j 0).val) (ln (j 1).val)

/-- Row `w` of the output. -/
def outRow (w : ℕ) : Finset S32x16.Idx := Finset.univ.filter fun x => (x 0).val = w

/-- The read share of tile `i` of SparseCore `c`. -/
def qOf (c i : ℕ) : PosShare TreeShare :=
  Transfers.dealOf (Transfers.dealOf fullShare (Finset.univ : Finset (Fin 2)) ⟨c % 2, Nat.mod_lt _ (by decide)⟩) (Finset.univ : Finset (Fin 16)) ⟨i % 16, Nat.mod_lt _ (by decide)⟩

/-- What tile `i` of SparseCore `c` takes, -/
def goP (d : Dev nD) (c i : ℕ) : sProp (MT nD τ sig (HIx 1) (Elt F) ℕ UU ℕ) :=
  iprop((pLoc d ↦{qOf c i} pT m d) ∗ (tLoc d ↦{qOf c i} tT m d) ∗ (oLoc d ↦[outRow (2 * i + c)]{fullShare} m (oLoc d)))
/-- and brings back. -/
def tdP (d : Dev nD) (c i : ℕ) : sProp (MT nD τ sig (HIx 1) (Elt F) ℕ UU ℕ) :=
  iprop((pLoc d ↦{qOf c i} pT m d) ∗ (tLoc d ↦{qOf c i} tT m d) ∗ (oLoc d ↦[outRow (2 * i + c)]{fullShare} outF m d))

instance goP_storable (d : Dev nD) (c i : ℕ) : BI.Storable (upEmb : UEmb _ 𝕄) (goP m d c i) := by unfold goP; infer_instance
instance tdP_storable (d : Dev nD) (c i : ℕ) : BI.Storable (upEmb : UEmb _ 𝕄) (tdP m d c i) := by unfold tdP; infer_instance

def P : (K (F := F)).Pay (nD := nD) (Val := Elt F) (Name := ℕ) (U := UU) where
  st := fun q d c => match q with | 0 => bigSep Finset.univ fun i : Fin ((K (F := F)).nSub 0) => goP m d c.val i.val
  dn := fun q d c => match q with | 0 => bigSep Finset.univ fun i : Fin ((K (F := F)).nSub 0) => tdP m d c.val i.val
  go := fun q d c i => match q with | 0 => goP m d c.val i.val
  td := fun q d c i => match q with | 0 => tdP m d c.val i.val
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d c.val i.val))
  dn q d c := match q with
    | 0 => (inferInstance : BI.Storable (upEmb : UEmb _ 𝕄) (bigSep Finset.univ fun i : Fin ((K (F := F)).nSub 0) => tdP m d c.val i.val))
  go q d c i := match q with | 0 => (inferInstance : BI.Storable (upEmb : UEmb _ 𝕄) (goP m d c.val i.val))
  td q d c i := match q with | 0 => (inferInstance : BI.Storable (upEmb : UEmb _ 𝕄) (tdP m d c.val i.val))

theorem vecSplit : (K (F := F)).VecSplit' (P m) 0 := by
  intro d c
  show (bigSep Finset.univ fun i : Fin ((K (F := F)).nSub 0) => goP m d c.val i.val) ⊢ |={Set.univ}=> iprop(
    (bigSep Finset.univ fun i : Fin ((K (F := F)).nSub 0) => goP m d c.val i.val)
      ∗ ((bigSep Finset.univ fun i : Fin ((K (F := F)).nSub 0) => tdP m d c.val i.val)
        -∗ bigSep Finset.univ fun i : Fin ((K (F := F)).nSub 0) => tdP m d c.val i.val))
  iintro H; imodintro
  isplitl [H]; · iexact H
  iintro H; iexact H

/-! ## The tile's obligation -/

abbrev pV : Memref sig .scVector .hbm S128x16384 .i32 := Memref.whole main_v0_scv
abbrev tV : Memref sig .scVector .hbm S128x16384 .i32 := Memref.whole main_v1_scv
abbrev oV : Memref sig .scVector .hbm S32x16 .f32 := Memref.whole main_v2_scv
abbrev m5 : Memref sig .scVector .vmem S16384 .i32 := Memref.whole cc0_scratch0
abbrev m6 : Memref sig .scVector .vmem S16384 .i32 := Memref.whole cc0_scratch1
abbrev m7 : Memref sig .scVector .vmem S16384 .i32 := Memref.whole cc0_scratch2
abbrev m8 : Memref sig .scVector .vmem S16384 .f32 := Memref.whole cc0_scratch3
abbrev m9 : Memref sig .scVector .vmem S5120 .i32 := Memref.whole cc0_scratch4
abbrev m10 : Memref sig .scVector .vmem S16 .f32 := Memref.whole cc0_scratch5

section Tile

variable (d : Dev nD) (L : grid0.Coords)

abbrev oRow (L : grid0.Coords) : Memref sig .scVector .hbm S16 .f32 :=
  ((oV : Memref sig .scVector .hbm S32x16 .f32).slice (Rect.unit (s := S32x16) (k0_off18 L) S1x16.size (k0_off18_inb L)) (fun _ => rfl)).squeeze S16 squeezes_S1x16_S16

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)
abbrev cC (d : Dev nD) (c : Fin τ.nSC) (i : Fin τ.nSub) : GSem nD τ sig := (V d c i, .dma cc0_scoped2.sem)

omit [FloatOps F] [Named F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L)))
              fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped2.sem : SemLoc sig).isScoped .scVector = true; decide⟩⟩⟩)]

abbrev own (b : Ref sig .scVector) (d : Dev nD) (L : grid0.Coords) : sProp (MT nD τ sig (HIx 1) (Elt F) ℕ UU ℕ) := iprop(∃ f, (V d (cV L) (jV L)).loc b ↦{fullShare} f)

omit [FloatOps F] [Named F] in
/-- One more scratch array taken out of the subcore's own. -/
theorem own_step {R : Finset (DevRef τ sig)} (b : Ref sig .scVector) (h : (Proc.scVector (cV L) (jV L)).devRef b ∈ R) :
    (bigSep R fun b => iprop(∃ f, ((d, b) : Loc nD τ sig) ↦{fullShare} f) : sProp 𝕄)
      = iprop((own (F := F) b d L) ∗ bigSep (R.erase ((Proc.scVector (cV L) (jV L)).devRef b)) fun b => iprop(∃ f, ((d, b) : Loc nD τ sig) ↦{fullShare} f)) :=
  SparseCore.bigSep_erase' h

abbrev left6 (L : grid0.Coords) : Finset (DevRef τ sig) :=
  ((((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)).erase
    ((Proc.scVector (cV L) (jV L)).devRef cc0_scratch5)

omit [FloatOps F] [Named F] in
theorem ne_ref {b b' : Ref sig .scVector} (h : b ≠ b') : (Proc.scVector (cV L) (jV L)).devRef b ≠ (Proc.scVector (cV L) (jV L)).devRef b' :=
  fun e => absurd (Proc.devRef_injective _ e) h

omit [FloatOps F] [Named F] in
theorem ownBufs_V :
    (ownBufs (V d (cV L) (jV L)) : sProp 𝕄)
      = iprop((own (F := F) cc0_scratch0 d L) ∗ (own (F := F) cc0_scratch1 d L) ∗ (own (F := F) cc0_scratch2 d L) ∗ (own (F := F) cc0_scratch3 d L)
          ∗ (own (F := F) cc0_scratch4 d L) ∗ (own (F := F) cc0_scratch5 d L)
          ∗ bigSep (left6 L) fun b => iprop(∃ f, ((d, b) : Loc nD τ sig) ↦{fullShare} f)) := by
  have h (b : Ref sig .scVector) (hb : ((Proc.scVector (cV L) (jV L)).devRef b).owner = .proc (.scVector (cV L) (jV L))) :
    (Proc.scVector (cV L) (jV L)).devRef b ∈ ownRefs (τ := τ) (.scVector (cV L) (jV L)) :=
    SparseCore.Cfg.mem_ownRefs_of_owner (p := Proc.scVector (cV L) (jV L)) hb
  unfold SparseCore.Cfg.ownBufs
  refine (own_step d L cc0_scratch0 (h _ rfl)).trans ?_
  rw [own_step d L cc0_scratch1 (Finset.mem_erase.mpr ⟨ne_ref L (by decide), h _ rfl⟩),
    own_step d L cc0_scratch2 (Finset.mem_erase.mpr ⟨ne_ref L (by decide), Finset.mem_erase.mpr ⟨ne_ref L (by decide), h _ rfl⟩⟩),
    own_step d L cc0_scratch3 (Finset.mem_erase.mpr ⟨ne_ref L (by decide), Finset.mem_erase.mpr ⟨ne_ref L (by decide),
      Finset.mem_erase.mpr ⟨ne_ref L (by decide), h _ rfl⟩⟩⟩),
    own_step d L cc0_scratch4 (Finset.mem_erase.mpr ⟨ne_ref L (by decide), Finset.mem_erase.mpr ⟨ne_ref L (by decide),
      Finset.mem_erase.mpr ⟨ne_ref L (by decide), Finset.mem_erase.mpr ⟨ne_ref L (by decide), h _ rfl⟩⟩⟩⟩),
    own_step d L cc0_scratch5 (Finset.mem_erase.mpr ⟨ne_ref L (by decide), Finset.mem_erase.mpr ⟨ne_ref L (by decide),
      Finset.mem_erase.mpr ⟨ne_ref L (by decide), Finset.mem_erase.mpr ⟨ne_ref L (by decide), Finset.mem_erase.mpr ⟨ne_ref L (by decide), h _ rfl⟩⟩⟩⟩⟩)]

/-- An array owned whole is held at some function of the position, -/
theorem holds_of_own (thr : Thread nD τ) {n : ℕ} (hn : 0 < n) {e : EltTy} (M : Memref sig thr.2.kind .vmem ⟨1, ![n]⟩ e) (hM : M.view.set = Finset.univ) :
    (iprop(∃ f, M.view.loc thr ↦[Finset.univ]{fullShare} f) : sProp 𝕄) ⊢ iprop(∃ g, Holds (F := F) thr M g) := by
  iintro ⟨%f, H⟩
  iexists (fun x => M.view.read (Elt F) f (fun a => ⟨x % n, by obtain rfl : a = 0 := Subsingleton.elim _ _; exact Nat.mod_lt _ hn⟩))
  unfold Holds
  rw [hM]
  iexists f
  isplitr
  · ipureintro
    funext j
    refine congrArg (M.view.read (Elt F) f) (funext fun a => ?_)
    obtain rfl : a = 0 := Subsingleton.elim _ _
    exact Fin.ext (Nat.mod_eq_of_lt (show (j 0).val < n from (j 0).isLt)).symm
  iexact H

/-- and back. -/
theorem own_of_holds (thr : Thread nD τ) {n : ℕ} {e : EltTy} (M : Memref sig thr.2.kind .vmem ⟨1, ![n]⟩ e) (hM : M.view.set = Finset.univ) :
    (iprop(∃ g, Holds (F := F) thr M g) : sProp 𝕄) ⊢ iprop(∃ f, M.view.loc thr ↦[Finset.univ]{fullShare} f) := by
  unfold Holds
  rw [hM]
  iintro ⟨%g, %f, -, H⟩
  iexists f; iexact H

/-- The kernel's output row is row `2 s + c`. -/
theorem oRow_emb (x : S16.Idx) (a : Fin 2) : ((oRow L).view.emb x a).val = (![2 * (L 1).val + (L 0).val, (x 0).val] : Fin 2 → ℕ) a := by
  have e : Shape.reshapeEquiv squeezes_S1x16_S16.numel_eq x = ((fun | 0 => ⟨0, Nat.one_pos⟩ | 1 => x 0 | ⟨_ + 2, h⟩ => absurd h (Nat.not_lt.2 (Nat.le_add_left _ _))) : S1x16.Idx) :=
    Shape.reshapeEquiv_eq_of_rowMajor _ (by
      rw [Shape.rowMajor_val_two, Shape.rowMajor_val_one]; show 0 * _ + (x 0).val = _; omega)
  have h0 : k0_off18 L = ![2 * (L 1).val + (L 0).val, 0] := k0_off18_eq L
  show ((Rect.unit (s := S32x16) (k0_off18 L) S1x16.size (k0_off18_inb L)).emb (Shape.reshapeEquiv squeezes_S1x16_S16.numel_eq x) a).val = _
  rw [e]
  match a with
  | 0 => show k0_off18 L 0 + 1 * 0 = _; rw [h0]; rfl
  | 1 => show k0_off18 L 1 + 1 * (x 0).val = _; rw [h0]; show 0 + 1 * (x 0).val = (x 0).val; omega

theorem oRow_set : (oRow L).view.set = outRow (2 * (L 1).val + (L 0).val) := by
  ext y
  rw [outRow, Finset.mem_filter]
  constructor
  · intro h
    obtain ⟨x, -, rfl⟩ := Finset.mem_map.1 h
    exact ⟨Finset.mem_univ _, oRow_emb L x 0⟩
  · rintro ⟨-, h⟩
    refine Finset.mem_map.2 ⟨ln (y 1).val, Finset.mem_univ _, ?_⟩
    refine funext fun a => Fin.ext ((oRow_emb L (ln (y 1).val) a).trans ?_)
    match a with
    | 0 => exact h.symm
    | 1 => exact ln_val (show (y 1).val < 16 from (y 1).isLt)

/-- A row brought back at the tile's sums is that row of the output. -/
theorem oRow_out {f' : Buf (Elt F) (oLoc d)} (hf : (oRow L).view.read (Elt F) f' = tileOut F (pT m d) (tT m d) (rowOf L 0))
    (y : S32x16.Idx) (hy : y ∈ outRow (2 * (L 1).val + (L 0).val)) : f' y = outF m d y := by
  have h := (Finset.mem_filter.1 hy).2
  have hr : 4 * (y 0).val = rowOf L 0 := by unfold rowOf; omega
  have e : (oRow L).view.emb (ln (y 1).val) = y := funext fun a => Fin.ext ((oRow_emb L (ln (y 1).val) a).trans (by
    match a with
    | 0 => exact h.symm
    | 1 => exact ln_val (show (y 1).val < 16 from (y 1).isLt)))
  unfold outF
  rw [hr, ← hf]
  exact ((View.read_apply _ _).trans ((cast_eq _ _).trans (congrArg f' e))).symm

theorem tile_body (hF : (K (F := F)).Facts) (O : CellTallies nD τ sig (HIx 1)) (W : Waits sig (HIx 1)) (hO : ∀ g, O g none = 0) :
    iprop(levAts (K (F := F)).L (K (F := F)).lev ∗ emp ∗ goP m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_spearman L pV (Memref.isWhole_whole _) tV (Memref.isWhole_whole _) oV (Memref.isWhole_whole _)
            m5 (Memref.isWhole_whole _) m6 (Memref.isWhole_whole _) m7 (Memref.isWhole_whole _) m8 (Memref.isWhole_whole _) m9 (Memref.isWhole_whole _)
            m10 (Memref.isWhole_whole _) cc0_scoped0 cc0_scoped1 cc0_scoped2)
          fun _ => iprop(tdP m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, Hgo, ⟨H5, H6, H7, H8, H9, H10, Hbufs⟩, ⟨HsA, HsB, HsC, Hsems⟩, HO⟩
  unfold goP
  icases Hgo with ⟨Hp, Ht, Ho⟩
  ihave Hmw := ((K (F := F)).mayWaits_none (thr := V d (cV L) (jV L)) hO) $$ Hlv
  ihave H5 := (holds_of_own (V d (cV L) (jV L)) (by decide : 0 < 16384) m5 (View.set_whole _)) $$ H5
  ihave H6 := (holds_of_own (V d (cV L) (jV L)) (by decide : 0 < 16384) m6 (View.set_whole _)) $$ H6
  ihave H7 := (holds_of_own (V d (cV L) (jV L)) (by decide : 0 < 16384) m7 (View.set_whole _)) $$ H7
  ihave H8 := (holds_of_own (V d (cV L) (jV L)) (by decide : 0 < 16384) m8 (View.set_whole _)) $$ H8
  ihave H9 := (holds_of_own (V d (cV L) (jV L)) (by decide : 0 < 5120) m9 (View.set_whole _)) $$ H9
  ihave H10 := (holds_of_own (V d (cV L) (jV L)) (by decide : 0 < 16) m10 (View.set_whole _)) $$ H10
  iapply (wp_wand frame (wpE (defs₀ (F := F)) 𝒱₀ (V d (cV L) (jV L)) none) Set.univ) $$ [Hmw Hp Ht Ho H5 H6 H7 H8 H9 H10 HsA HsB HsC HO]
  · iapply (tile (F := F) (defs := defs₀ (F := F)) d L O W (q := qOf (L 0).val (L 1).val) (a2 := pV) (a3 := tV) (a4 := oV)
      (f2 := pT m d) (f3 := tT m d) (f4 := m (oLoc d)))
    isplitl [Hmw]; · iexact Hmw
    isplitl [Hp]; · iexact Hp
    isplitl [Ht]; · iexact Ht
    isplitl [Ho]
    · rw [show ((oV.slice (Rect.unit (s := S32x16) (k0_off18 L) S1x16.size (k0_off18_inb L)) (fun _ => rfl)).squeeze S16 squeezes_S1x16_S16).view.set = outRow (2 * (L 1).val + (L 0).val) from oRow_set L]
      iexact Ho
    isplitr [H10 HsC]
    · unfold Scratch Owed
      isplitl [H5]; · iexact H5
      isplitl [H6]; · iexact H6
      isplitl [H7]; · iexact H7
      isplitl [H8]; · iexact H8
      isplitl [H9]; · iexact H9
      isplitl [HsA]; · iexact HsA
      isplitl [HsB]; · iexact HsB
      iexists W
      isplitr; · ipureintro; exact fun p hp => .inl hp
      iexact HO
    isplitl [H10]; · iexact H10
    iexact HsC
  iintro %u ⟨Hp, Ht, ⟨%f', %hf', Ho⟩, HS, H10, HsC⟩
  unfold Scratch Owed tdP
  icases HS with ⟨H5, H6, H7, H8, H9, HsA, HsB, HO⟩
  ihave H5 := (own_of_holds (V d (cV L) (jV L)) m5 (View.set_whole _)) $$ H5
  ihave H6 := (own_of_holds (V d (cV L) (jV L)) m6 (View.set_whole _)) $$ H6
  ihave H7 := (own_of_holds (V d (cV L) (jV L)) m7 (View.set_whole _)) $$ H7
  ihave H8 := (own_of_holds (V d (cV L) (jV L)) m8 (View.set_whole _)) $$ H8
  ihave H9 := (own_of_holds (V d (cV L) (jV L)) m9 (View.set_whole _)) $$ H9
  ihave H10 := (own_of_holds (V d (cV L) (jV L)) m10 (View.set_whole _)) $$ H10
  isplitl [Hp Ht Ho]
  · isplitl [Hp]; · iexact Hp
    isplitl [Ht]; · iexact Ht
    rw [show ((oV.slice (Rect.unit (s := S32x16) (k0_off18 L) S1x16.size (k0_off18_inb L)) (fun _ => rfl)).squeeze S16 squeezes_S1x16_S16).view.set = outRow (2 * (L 1).val + (L 0).val) from oRow_set L]
    ihave Ho := (Entails.of_eq (pointsTo_congr (q := fullShare) (ℓ := oLoc d) (oRow_out m d L hf'))) $$ Ho
    iexact Ho
  isplitl [H5 H6 H7 H8 H9 H10 Hbufs]
  · isplitl [H5]; · iexact H5
    isplitl [H6]; · iexact H6
    isplitl [H7]; · iexact H7
    isplitl [H8]; · iexact H8
    isplitl [H9]; · iexact H9
    isplitl [H10]; · iexact H10
    iexact Hbufs
  isplitl [HsA HsB HsC Hsems]
  · isplitl [HsA]; · iexact HsA
    isplitl [HsB]; · iexact HsB
    isplitl [HsC]; · iexact HsC
    iexact Hsems
  iexact HO

end Tile

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__sc_spearman (coordsV c s)
      pV (Memref.isWhole_whole _) tV (Memref.isWhole_whole _) oV (Memref.isWhole_whole _)
      m5 (Memref.isWhole_whole _) m6 (Memref.isWhole_whole _) m7 (Memref.isWhole_whole _) m8 (Memref.isWhole_whole _) m9 (Memref.isWhole_whole _)
      m10 (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 1024 in
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.Spearman
-- ==== Proof.Main.lean ====
/-
  The whole program: @main transposes its two arguments, makes the SparseCore call, adds up what the tiles wrote
  and negates it. Every run ends with the two arguments unchanged, the result at that value and every semaphore
  back at zero.
-/
module

public import proofs.«01_k».proof.Proof.Launch
public import Idealize.ShloMosaic.Lib.SparseCore.Quiescent
public import Idealize.ShloMosaic.Lib.StableHlo.Run

@[expose] public section

noncomputable section

namespace Cert.Proof.Spearman

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Dealing the arrays to the tiles -/

/-- An array read by every tile, in the tiles' shares. -/
theorem deal_shares (ℓ : Loc nD τ sig) (f : Buf (Elt F) ℓ) :
    (ℓ ↦{fullShare} f : sProp 𝕄) = bigSep (Finset.univ : Finset (Fin 2)) fun c => bigSep (Finset.univ : Finset (Fin 16)) fun i => ℓ ↦{qOf c.val i.val} f := by
  rw [Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩]
  refine bigSep_congr fun i _ => ?_
  have hc : (⟨c.val % 2, Nat.mod_lt _ (by decide)⟩ : Fin 2) = c := Fin.ext (Nat.mod_eq_of_lt c.isLt)
  have hi : (⟨i.val % 16, Nat.mod_lt _ (by decide)⟩ : Fin 16) = i := Fin.ext (Nat.mod_eq_of_lt i.isLt)
  unfold qOf
  rw [hc, hi]

/-- The rows of the output one SparseCore's tiles write. -/
def outRows (c : ℕ) : Finset S32x16.Idx := Finset.univ.filter fun x => (x 0).val % 2 = c

theorem mem_outRow (w : ℕ) (x : S32x16.Idx) : x ∈ outRow w ↔ (x 0).val = w := by simp [outRow]
theorem mem_outRows (c : ℕ) (x : S32x16.Idx) : x ∈ outRows c ↔ (x 0).val % 2 = c := by simp [outRows]

/-- The output in its thirty-two rows. -/
theorem deal_rows (d : Dev nD) (f : Buf (Elt F) (oLoc d)) :
    (oLoc d ↦{fullShare} f : sProp 𝕄)
      = bigSep (Finset.univ : Finset (Fin 2)) fun c => bigSep (Finset.univ : Finset (Fin 16)) fun i => oLoc d ↦[outRow (2 * i.val + c.val)]{fullShare} f := by
  have h1 : (Finset.univ : Finset S32x16.Idx) = (Finset.univ : Finset (Fin 2)).biUnion fun c => outRows c.val := by
    ext x
    simp only [Finset.mem_univ, Finset.mem_biUnion, true_and, true_iff, mem_outRows]
    exact ⟨⟨(x 0).val % 2, Nat.mod_lt _ (by decide)⟩, rfl⟩
  have h2 (c : Fin 2) : outRows c.val = (Finset.univ : Finset (Fin 16)).biUnion fun i => outRow (2 * i.val + c.val) := by
    ext x
    have hx : (x 0).val < 32 := (x 0).isLt
    simp only [Finset.mem_univ, Finset.mem_biUnion, true_and, mem_outRow, mem_outRows]
    constructor
    · intro h; exact ⟨⟨(x 0).val / 2, by omega⟩, by show (x 0).val = 2 * ((x 0).val / 2) + c.val; omega⟩
    · rintro ⟨i, h⟩; omega
  show (oLoc d ↦[(Finset.univ : Finset S32x16.Idx)]{fullShare} f : sProp 𝕄) = _
  rw [h1, pointsTo_biUnion (ℓ := oLoc d) (Finset.univ : Finset (Fin 2)) (fun c => outRows c.val)]
  · refine bigSep_congr fun c _ => ?_
    rw [h2, pointsTo_biUnion (ℓ := oLoc d) (Finset.univ : Finset (Fin 16)) (fun i => outRow (2 * i.val + c.val))]
    intro i _ j _ hij
    refine Finset.disjoint_left.2 fun x hx hx' => hij (Fin.ext ?_)
    rw [mem_outRow] at hx hx'; omega
  · intro i _ j _ hij
    refine Finset.disjoint_left.2 fun x hx hx' => hij (Fin.ext ?_)
    rw [mem_outRows] at hx hx'; omega

variable [FloatOps F] [Named F]
variable (m : (ℓ : Loc nD τ sig) → Buf (Elt F) ℓ) (ρ : Dev nD → PrngReg)

theorem st0_eq (d : Dev nD) : (bigSep Finset.univ fun c : Fin ((K (F := F)).nCore 0) => (P m).st 0 d c)
    = iprop((pLoc d ↦{fullShare} pT m d) ∗ (tLoc d ↦{fullShare} tT m d) ∗ (oLoc d ↦{fullShare} m (oLoc d))) := by
  rw [deal_shares (pLoc d), deal_shares (tLoc d), deal_rows d]
  show (bigSep (Finset.univ : Finset (Fin 2)) fun c => bigSep (Finset.univ : Finset (Fin 16)) fun i => goP m d c.val i.val) = _
  unfold goP
  simp only [bigSep_sep']
theorem dn0_eq (d : Dev nD) : (bigSep Finset.univ fun c : Fin ((K (F := F)).nCore 0) => (P m).dn 0 d c)
    = iprop((pLoc d ↦{fullShare} pT m d) ∗ (tLoc d ↦{fullShare} tT m d) ∗ (oLoc d ↦{fullShare} outF m d)) := by
  rw [deal_shares (pLoc d), deal_shares (tLoc d), deal_rows d]
  show (bigSep (Finset.univ : Finset (Fin 2)) fun c => bigSep (Finset.univ : Finset (Fin 16)) fun i => tdP m d c.val i.val) = _
  unfold tdP
  simp only [bigSep_sep']

/-! ## The handshakes' ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [he]; iempintro
  unfold P; dsimp only
  rw [show (bigSep Finset.univ fun _ : Thread nD τ => bigSep Finset.univ fun _ : Fin 1 => (iprop(emp) : sProp 𝕄)) = iprop(emp) from by
    rw [bigSep_congr fun _ _ => he _, he]]
  iempintro

/-! ## @main on the TensorCore -/

abbrev a' : DevRef τ sig := Proc.devRef .tc (main_arg0 : Ref sig .tc)
abbrev b' : DevRef τ sig := Proc.devRef .tc (main_arg1 : Ref sig .tc)
abbrev p' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev c' : DevRef τ sig := Proc.devRef .tc (main_cst : Ref sig .tc)
abbrev r' : DevRef τ sig := Proc.devRef .tc (main_v3 : Ref sig .tc)
abbrev y' : DevRef τ sig := Proc.devRef .tc (main_v4 : Ref sig .tc)

abbrev op0 : HloOp τ sig (Elt F) := StableHlo.unary main_arg0 main_v0 (fun x => transpose S128x16384 [1, 0] x transposes_S16384x128_S128x16384_1_0)
abbrev op1 : HloOp τ sig (Elt F) := StableHlo.unary main_arg1 main_v1 (fun x => transpose S128x16384 [1, 0] x transposes_S16384x128_S128x16384_1_0)
abbrev op2 : HloOp τ sig (Elt F) := StableHlo.nullary main_cst (constant S_ .f32 0x00000000#32)
abbrev op3 : HloOp τ sig (Elt F) := StableHlo.binary main_v2 main_cst main_v3 (fun x v => Host.reduceAdd x v reducesTo_S32x16_S_d0_1 h_S_)
abbrev op4 : HloOp τ sig (Elt F) := StableHlo.unary main_v3 main_v4 Host.negf

abbrev S8 : Finset (DevRef τ sig) := {a', b', p', t', o', c', r', y'}

abbrev yLoc (d : Dev nD) : Loc nD τ sig := (SparseCore.T d).loc main_v4

/-- The eight arrays one by one. -/
theorem held_S8 (d : Dev nD) (W : Valuation τ sig (Elt F)) :
    (held (T d) S8 W : sProp 𝕄) = iprop((aLoc d ↦{fullShare} W a') ∗ (bLoc d ↦{fullShare} W b') ∗ (pLoc d ↦{fullShare} W p') ∗ (tLoc d ↦{fullShare} W t')
      ∗ (oLoc d ↦{fullShare} W o') ∗ ((SparseCore.T d).loc main_cst ↦{fullShare} W c') ∗ ((SparseCore.T d).loc main_v3 ↦{fullShare} W r') ∗ (yLoc d ↦{fullShare} W y')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (pLoc d ↦{fullShare} W main_v0) ∗ (tLoc d ↦{fullShare} W main_v1)
      ∗ (oLoc d ↦{fullShare} W main_v2) ∗ ((SparseCore.T d).loc main_cst ↦{fullShare} W main_cst) ∗ ((SparseCore.T d).loc main_v3 ↦{fullShare} W main_v3) ∗ (yLoc d ↦{fullShare} W main_v4)) := by
  unfold unscopedBufs
  rw [show (Finset.univ.filter fun b : Ref sig .tc => ¬ b.isScoped) = {main_arg0, main_arg1, main_v0, main_v1, main_v2, main_cst, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents: at the launch, after each transpose, after the call, and after each operation on the result. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
def V3 (d : Dev nD) : Valuation τ sig (Elt F) := Function.update (V2 m d) o' (outF m d)
def V4 (d : Dev nD) : Valuation τ sig (Elt F) := (op2 (F := F)).result (V3 m d)
def V5 (d : Dev nD) : Valuation τ sig (Elt F) := (op3 (F := F)).result (V4 m d)
def V6 (d : Dev nD) : Valuation τ sig (Elt F) := (op4 (F := F)).result (V5 m d)

/-- What the program returns. -/
def resF (d : Dev nD) : FVec F S_ .f32 := Host.negf (Host.reduceAdd (outF m d) (constant S_ .f32 0x00000000#32) reducesTo_S32x16_S_d0_1 h_S_)

theorem unscoped_held (d : Dev nD) : (unscopedBufs d (fun b => m ((SparseCore.T d).loc b)) : sProp 𝕄) = held (T d) S8 (V0 m d) := by
  rw [unscopedBufs_eq, held_S8]; rfl

theorem res0 (W : Valuation τ sig (Elt F)) (b : DevRef τ sig) (h : b ≠ p') : (op0 (F := F)).result W b = W b :=
  (op0 (F := F)).result_of_not_mem W (show b ∉ ({p'} : Finset _) by rwa [Finset.mem_singleton])
theorem res1 (W : Valuation τ sig (Elt F)) (b : DevRef τ sig) (h : b ≠ t') : (op1 (F := F)).result W b = W b :=
  (op1 (F := F)).result_of_not_mem W (show b ∉ ({t'} : Finset _) by rwa [Finset.mem_singleton])
theorem res2 (W : Valuation τ sig (Elt F)) (b : DevRef τ sig) (h : b ≠ c') : (op2 (F := F)).result W b = W b :=
  (op2 (F := F)).result_of_not_mem W (show b ∉ ({c'} : Finset _) by rwa [Finset.mem_singleton])
theorem res3 (W : Valuation τ sig (Elt F)) (b : DevRef τ sig) (h : b ≠ r') : (op3 (F := F)).result W b = W b :=
  (op3 (F := F)).result_of_not_mem W (show b ∉ ({r'} : Finset _) by rwa [Finset.mem_singleton])
theorem res4 (W : Valuation τ sig (Elt F)) (b : DevRef τ sig) (h : b ≠ y') : (op4 (F := F)).result W b = W b :=
  (op4 (F := F)).result_of_not_mem W (show b ∉ ({y'} : Finset _) by rwa [Finset.mem_singleton])

theorem V2_p (d : Dev nD) : V2 m d p' = pT m d := by
  unfold V2; rw [res1 _ _ (by decide)]; unfold V1
  exact StableHlo.unary_result _ _ _ _ _ _
theorem V2_t (d : Dev nD) : V2 m d t' = tT m d := by
  unfold V2
  refine (StableHlo.unary_result _ _ _ _ _ _).trans ?_
  unfold V1 tT
  exact congrArg (fun x => transpose S128x16384 [1, 0] x transposes_S16384x128_S128x16384_1_0) (res0 (V0 m d) b' (by decide))
theorem V2_o (d : Dev nD) : V2 m d o' = m (oLoc d) := by
  unfold V2 V1; rw [res1 _ _ (by decide), res0 _ _ (by decide)]; rfl
theorem V3_o (d : Dev nD) : V3 m d o' = outF m d := Function.update_self _ _ _
theorem V3_ne (d : Dev nD) (b : DevRef τ sig) (h : b ≠ o') : V3 m d b = V2 m d b := Function.update_of_ne h _ _

theorem V6_a (d : Dev nD) : V6 m d a' = m (aLoc d) := by
  unfold V6 V5 V4; rw [res4 _ _ (by decide), res3 _ _ (by decide), res2 _ _ (by decide), V3_ne _ _ _ (by decide)]
  unfold V2 V1; rw [res1 _ _ (by decide), res0 _ _ (by decide)]; rfl
theorem V6_b (d : Dev nD) : V6 m d b' = m (bLoc d) := by
  unfold V6 V5 V4; rw [res4 _ _ (by decide), res3 _ _ (by decide), res2 _ _ (by decide), V3_ne _ _ _ (by decide)]
  unfold V2 V1; rw [res1 _ _ (by decide), res0 _ _ (by decide)]; rfl
theorem V6_y (d : Dev nD) : V6 m d y' = resF m d := by
  unfold V6
  refine (StableHlo.unary_result _ _ _ _ _ _).trans (congrArg Host.negf ?_)
  unfold V5
  refine (StableHlo.binary_result _ _ _ _ _ _ _ _).trans ?_
  refine congrArg₂ (fun x v => Host.reduceAdd x v reducesTo_S32x16_S_d0_1 h_S_) ?_ ?_
  · unfold V4; rw [res2 _ _ (by decide)]; exact V3_o m d
  · unfold V4; exact StableHlo.nullary_result _ _ _ _

theorem held_V2 (d : Dev nD) : (held (T d) S8 ((op1 (F := F)).result (V1 m d)) : sProp 𝕄)
    = iprop((aLoc d ↦{fullShare} V2 m d a') ∗ (bLoc d ↦{fullShare} V2 m d b') ∗ (pLoc d ↦{fullShare} pT m d) ∗ (tLoc d ↦{fullShare} tT m d)
      ∗ (oLoc d ↦{fullShare} m (oLoc d)) ∗ ((SparseCore.T d).loc main_cst ↦{fullShare} V2 m d c') ∗ ((SparseCore.T d).loc main_v3 ↦{fullShare} V2 m d r') ∗ (yLoc d ↦{fullShare} V2 m d y')) := by
  refine (held_S8 d (V2 m d)).trans ?_
  rw [V2_p, V2_t, V2_o]
theorem held_V6 (d : Dev nD) : (held (T d) S8 ((op4 (F := F)).result (V5 m d)) : sProp 𝕄)
    = iprop((aLoc d ↦{fullShare} m (aLoc d)) ∗ (bLoc d ↦{fullShare} m (bLoc d)) ∗ (pLoc d ↦{fullShare} V6 m d p') ∗ (tLoc d ↦{fullShare} V6 m d t')
      ∗ (oLoc d ↦{fullShare} V6 m d o') ∗ ((SparseCore.T d).loc main_cst ↦{fullShare} V6 m d c') ∗ ((SparseCore.T d).loc main_v3 ↦{fullShare} V6 m d r') ∗ (yLoc d ↦{fullShare} resF m d)) := by
  refine (held_S8 d (V6 m d)).trans ?_
  rw [V6_a, V6_b, V6_y]

theorem sub0 : (op0 (F := F)).bufs ⊆ S8 := show ({a', p'} : Finset (DevRef τ sig)) ⊆ S8 by decide
theorem sub1 : (op1 (F := F)).bufs ⊆ S8 := show ({b', t'} : Finset (DevRef τ sig)) ⊆ S8 by decide
theorem sub2 : (op2 (F := F)).bufs ⊆ S8 := show ({c'} : Finset (DevRef τ sig)) ⊆ S8 by decide
theorem sub3 : (op3 (F := F)).bufs ⊆ S8 := show ({o', c', r'} : Finset (DevRef τ sig)) ⊆ S8 by decide
theorem sub4 : (op4 (F := F)).bufs ⊆ S8 := show ({r', y'} : Finset (DevRef τ sig)) ⊆ S8 by decide

/-- What @main leaves: the arguments as they were, the result. -/
abbrev FIN (d : Dev nD) : sProp (MT nD τ sig (HIx 1) (Elt F) ℕ UU ℕ) :=
  iprop((aLoc d ↦{fullShare} m (aLoc d)) ∗ (bLoc d ↦{fullShare} m (bLoc d)) ∗ (yLoc d ↦{fullShare} resF m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S8) sub0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) sub1 (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha, Hbb, Hp, Ht, Ho, Hc, Hr, Hy⟩
  iapply ((K (F := F)).wp_run (D (F := F)) 𝒱 (EH := EH) (P := P m) κ d 0) $$ [Hst Ha Hbb Hp Ht Ho Hc Hr Hy Hb Hts]
  isplitr; · iexact Hctx
  isplitl [Hst]; · iexact Hst
  isplitl [Hp Ht Ho]
  · rw [st0_eq]
    isplitl [Hp]; · iexact Hp
    isplitl [Ht]; · iexact Ht
    iexact Ho
  iintro ⟨Hst, Hdn⟩
  ihave Hdn' := (Entails.of_eq (dn0_eq m d)) $$ Hdn
  icases Hdn' with ⟨Hp, Ht, Ho⟩
  iapply (wp_hlo_within 𝒱 (SparseCore.T d) none Set.univ (op := op2) (S := S8) sub2 (V := V3 m d)) $$ [Hb Ha Hbb Hp Ht Ho Hc Hr Hy]
  · isplitl [Hb]; · iexact Hb
    rw [held_S8, V3_o, V3_ne _ _ a' (by decide), V3_ne _ _ b' (by decide), V3_ne _ _ p' (by decide), V3_ne _ _ t' (by decide), V3_ne _ _ c' (by decide),
      V3_ne _ _ r' (by decide), V3_ne _ _ y' (by decide), V2_p, V2_t]
    isplitl [Ha]; · iexact Ha
    isplitl [Hbb]; · iexact Hbb
    isplitl [Hp]; · iexact Hp
    isplitl [Ht]; · iexact Ht
    isplitl [Ho]; · iexact Ho
    isplitl [Hc]; · iexact Hc
    isplitl [Hr]; · iexact Hr
    iexact Hy
  iintro ⟨Hb, Hheld⟩
  rw [wp_ret]; imodintro
  iapply (wp_hlo_within 𝒱 (SparseCore.T d) none Set.univ (op := op3) (S := S8) sub3 (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S8) sub4 (V := V5 m d)) $$ [Hb Hheld]
  · isplitl [Hb]; · iexact Hb
    iexact Hheld
  iintro ⟨Hb, Hheld⟩
  rw [wp_ret]; imodintro
  ihave Hh := (Entails.of_eq (held_V6 (F := F) m d)) $$ Hheld
  icases Hh with ⟨Ha, Hbb, -, -, -, -, -, Hy⟩
  imodintro
  isplitl [Hst]; · iexact Hst
  isplitr [Hb Hts]
  · isplitl [Ha]; · iexact Ha
    isplitl [Hbb]; · iexact Hbb
    iexact Hy
  isplitl [Hb] <;> iassumption

/-! ## The run -/

def fq (d : Dev nD) (s' : Phys nD τ sig (Elt F)) : Prop :=
  s'.mem.mem (aLoc d) = m (aLoc d) ∧ s'.mem.mem (bLoc d) = m (bLoc d) ∧ s'.mem.mem (yLoc d) = resF m d

/-- An array owned whole holds what the machine's memory holds. -/
theorem reads (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (aLoc d) = m (aLoc d)⌝ : sProp 𝕄) := by
    iintro ⟨⟨Ha, -, -⟩, HSI⟩
    iapply (reads (aLoc d) _ s')
    isplitl [Ha] <;> iassumption
  have h2 : iprop(FIN m d ∗ SI s') ⊢ (⌜s'.mem.mem (bLoc d) = m (bLoc d)⌝ : sProp 𝕄) := by
    iintro ⟨⟨-, Hb, -⟩, HSI⟩
    iapply (reads (bLoc d) _ s')
    isplitl [Hb] <;> iassumption
  have h3 : iprop(FIN m d ∗ SI s') ⊢ (⌜s'.mem.mem (yLoc d) = resF m d⌝ : sProp 𝕄) := by
    iintro ⟨⟨-, -, Hy⟩, HSI⟩
    iapply (reads (yLoc d) _ s')
    isplitl [Hy] <;> iassumption
  have h12 := (BIClass.and_intro h2 h3).trans (pure_and (PROP := sProp 𝕄)).1
  exact (BIClass.and_intro h1 h12).trans (pure_and (PROP := sProp 𝕄)).1

def QC : PUnit × MemSt nD τ sig (Elt F) → Prop :=
  fun r => (∀ c : Dev nD, r.2.mem (aLoc c) = m (aLoc c) ∧ r.2.mem (bLoc c) = m (bLoc c) ∧ r.2.mem (yLoc c) = resF m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Spearman
-- ==== Proof.Argsort.lean ====
/-
  An argsort of an argsort is a rank. The stable insertion sort of positions sends place `k` to the position
  standing there; under a strict total order (ties broken by position, which stability does) the position at
  place `k` has rank `k`, and sorting those positions by themselves inverts the permutation.
-/
module

public import proofs.«01_k».proof.Proof.Order
public import Idealize.ShloMosaic.Lib.SortFacts
public import Mathlib.Order.Preorder.Finite

@[expose] public section

noncomputable section

namespace Cert.Proof.Spearman

open Idealize.ShloMosaic

variable {n : ℕ}

/-- A comparison of positions with its ties broken by position. -/
def tie (B : Fin n → Fin n → Bool) (a b : Fin n) : Bool := B a b || (!B b a && decide (a < b))

theorem stable_tie (B : Fin n → Fin n → Bool) (l : List (Fin n)) (hl : l.Pairwise (· < ·)) :
    stableSort B l = stableSort (tie B) l := by
  induction l with
  | nil => rfl
  | cons a l ih =>
    rw [List.pairwise_cons] at hl
    unfold stableSort
    rw [ih hl.2]
    refine insertBefore_congr _ _ _ _ fun b hb => ?_
    have hlt := hl.1 b ((perm_stableSort _ _).mem_iff.mp hb)
    simp [tie, not_lt.mpr hlt.le]

theorem sortedFrom_tie (B : Fin n → Fin n → Bool) : sortedFrom B = sortedFrom (tie B) := by
  funext k
  unfold sortedFrom
  have e : sortPositions n B = sortPositions n (tie B) := stable_tie B _ (List.pairwise_lt_finRange n)
  simp only [List.get_eq_getElem, e]
  rfl

/-- The sort puts positions in the order of the comparison. -/
theorem sorted_lt (B : Fin n → Fin n → Bool) (lt : Fin n → Fin n → Prop) (hi : ∀ a b, lt a b → ¬ lt b a)
    (ht : ∀ a b c, lt a b → lt b c → lt a c) (hc : ∀ a b, a ≠ b → lt a b ∨ lt b a)
    (hB : ∀ a b, tie B a b = true ↔ lt a b) {i j : Fin n} (hij : i < j) : lt (sortedFrom B i) (sortedFrom B j) := by
  have hf : ∀ a b, tie B a b = false ↔ ¬ lt a b := fun a b => by rw [← hB, Bool.not_eq_true]
  have e : sortedFrom B i ≠ sortedFrom B j := fun e => hij.ne (sortedFrom_injective B e)
  rcases hc _ _ e with h | h
  · exact h
  · exfalso
    have := sortedFrom_noInversion (tie B) (tie B) (fun a b h => (hf _ _).mpr (hi _ _ ((hB _ _).mp h))) (fun _ _ h => h)
      (fun a b c h1 h2 => by
        rw [hf] at *
        intro h3
        by_cases e1 : a = b
        · subst e1; exact h2 h3
        · rcases hc a b e1 with h4 | h4
          · exact h1 h4
          · exact h2 (ht _ _ _ h4 h3)) i j hij
    rw [← sortedFrom_tie] at this
    exact (hf _ _).mp this h

theorem mono_id (f : Fin n → Fin n) (hf : StrictMono f) (k : Fin n) : f k = k := hf.apply_eq

/-- The position at place `k` has rank `k`. -/
theorem sorted_rank (B : Fin n → Fin n → Bool) (lt : ℕ → ℕ → Prop) (h : Tot lt)
    (hB : ∀ a b, tie B a b = true ↔ lt a.val b.val) (k : Fin n) : rk n lt (sortedFrom B k).val = k.val := by
  have := mono_id (fun k => ⟨rk n lt (sortedFrom B k).val, rk_lt_n h (sortedFrom B k).isLt⟩) (fun i j hij => by
    rw [Fin.mk_lt_mk]
    refine rk_lt_of_lt h (Fin.isLt _) ?_
    exact sorted_lt B (fun a b => lt a.val b.val) (fun a b h1 h2 => h.irrefl _ (h.trans _ _ _ h1 h2)) (fun _ _ _ => h.trans _ _ _)
      (fun a b e => h.total _ _ fun e' => e (Fin.ext e')) hB hij) k
  exact congrArg Fin.val this

/-- Sorting the places' positions by themselves inverts the permutation. -/
theorem sorted_inverse (p : Fin n → Fin n) (hp : Function.Injective p) (B : Fin n → Fin n → Bool)
    (hB : ∀ a b, tie B a b = true ↔ p a < p b) (x : Fin n) : p (sortedFrom B x) = x :=
  mono_id (fun x => p (sortedFrom B x)) (fun _ _ hij =>
    sorted_lt B (fun a b => p a < p b) (fun _ _ h1 h2 => lt_asymm h1 h2) (fun _ _ _ => lt_trans)
      (fun _ _ e => lt_or_gt_of_ne fun e' => e (hp e')) hB hij) x

/-- The argsort of the argsort is the rank. -/
theorem argsort_twice (B B' : Fin n → Fin n → Bool) (lt : ℕ → ℕ → Prop) (h : Tot lt)
    (hB : ∀ a b, tie B a b = true ↔ lt a.val b.val)
    (hB' : ∀ a b, B' a b = true ↔ sortedFrom B a < sortedFrom B b) (x : Fin n) : (sortedFrom B' x).val = rk n lt x.val := by
  have e := sorted_inverse (sortedFrom B) (sortedFrom_injective B) B' (fun a b => by
    have hf : B' b a = false ↔ ¬ sortedFrom B b < sortedFrom B a := by rw [← hB', Bool.not_eq_true]
    unfold tie
    rw [Bool.or_eq_true, Bool.and_eq_true, Bool.not_eq_true', hB', hf, decide_eq_true_iff]
    refine ⟨fun h1 => h1.elim id fun h2 => ?_, Or.inl⟩
    refine lt_of_le_of_ne (not_lt.mp h2.1) fun e => h2.2.ne (sortedFrom_injective B e)) x
  conv_rhs => rw [← e]
  exact (sorted_rank B lt h hB _).symm

end Cert.Proof.Spearman

end
-- ==== Proof.RefSort.lean ====
/-
  The reference's ranks. On words that are neither NaN patterns nor the negative zero, the reference's float
  comparator orders a column's elements as the kernel's keys do, so the argsort of the argsort of a column is
  the rank the kernel's three counting passes compute.
-/
module

public import proofs.«01_k».proof.ReferenceIdeal
public import proofs.«01_k».proof.Pre_tame
public import proofs.«01_k».proof.Proof.Argsort
public import proofs.«01_k».proof.Proof.Passes
public import Idealize.ShloMosaic.Lib.TotalOrder
public import Idealize.ShloMosaic.Lib.SortKey
public import Idealize.ShloMosaic.Lib.ReduceAll
public import Idealize.ShloMosaic.Lib.IdealHost

@[expose] public section

noncomputable section

namespace Cert.Proof.Spearman

open Idealize.ShloMosaic

/-- The shape of an argument. -/
abbrev SA : Shape := ⟨2, ![16384, 128]⟩

/-- Words the two orders agree on. -/
def Tame (x : SA.Idx → BitVec 32) : Prop := ∀ i, ¬ TotalOrder.IsNaN 8 23 (x i) ∧ x i ≠ 0x80000000#32

theorem keyOf_eq (b : BitVec 32) : keyOf b = totalOrderKey b := by
  have h : ∀ s : BitVec 32, s ||| 0x80000000#32 = (s &&& 0x7FFFFFFF#32) ^^^ 0x80000000#32 := by
    intro s
    ext i hi
    simp only [BitVec.getElem_or, BitVec.getElem_xor, BitVec.getElem_and]
    interval_cases i <;> simp
  rw [totalOrderKey_eq_sortableKey_xor]
  unfold keyOf sortableKey
  rw [h, BitVec.xor_assoc]

/-- Off the excluded words the extended reals' order is the keys'. -/
theorem olt_iff {a b : BitVec 32} (ha : ¬ TotalOrder.IsNaN 8 23 a ∧ a ≠ 0x80000000#32) (hb : ¬ TotalOrder.IsNaN 8 23 b ∧ b ≠ 0x80000000#32) :
    Ideal.ofBits .f32 a < Ideal.ofBits .f32 b ↔ (keyOf a).toNat < (keyOf b).toNat := by
  rw [keyOf_eq, keyOf_eq]
  refine (TotalOrder.lt_iff (e := 8) (m := 23) ha.1 hb.1 fun hz => ?_).symm
  rcases (TotalOrder.oppositeZeros_f32_iff a b).mp hz with h | h
  · exact ha.2 h.1
  · exact hb.2 h.2

/-- The reference's comparator, read on extended reals. -/
theorem comparator_eq (l r : Ideal .f32 × BitVec 32) :
    (Cert.ReferenceIdeal.comparator_f32_i32_d0 (F := Ideal) l r == 1#1) = decide ((l.1 : EReal) < r.1) := by
  have h0 : Ideal.ofBits .f32 0x00000000#32 = 0 := Ideal.ofBits_zero_f32
  have hs : ∀ x : EReal, Scalar.select (Ideal.cmp .une x x) (Ideal.ofBits .f32 0x7FC00000#32 : EReal)
      (Scalar.select (Ideal.cmp .oeq x (Ideal.ofBits .f32 0x00000000#32)) (Ideal.ofBits .f32 0x00000000#32) x) = x := by
    intro x
    rw [h0]
    by_cases hx : x = 0
    · subst hx; simp [Scalar.select, Ideal.cmp]
    · simp [Scalar.select, Ideal.cmp, hx]
  have e : Cert.ReferenceIdeal.comparator_f32_i32_d0 (F := Ideal) l r = Ideal.cmp .olt l.1 r.1 := by
    have h1 := hs l.1
    have h2 := hs r.1
    show Ideal.cmp .olt (Scalar.select _ _ (Scalar.select _ _ _)) (Scalar.select _ _ (Scalar.select _ _ _)) = _
    exact congrArg₂ (Ideal.cmp .olt) h1 h2
  rw [e]
  unfold Ideal.cmp
  by_cases hlt : (l.1 : EReal) < r.1 <;> simp [hlt]

/-- Element `(x, col)` of an argument. -/
def atA (x : ℕ) (c : Fin 128) : SA.Idx := fun a => Fin.cases ⟨x % 16384, Nat.mod_lt _ (by decide)⟩ (fun b => Fin.cases c (fun z => z.elim0) b) a

/-- A column's words. -/
def colFn (x : SA.Idx → BitVec 32) (c : Fin 128) : ℕ → BitVec 32 := fun y => x (atA y c)

theorem along_eq (j : SA.Idx) (k : Fin 16384) : j.along (0 : Fin 2) k = atA k.val (j 1) := by
  funext a
  refine Fin.cases ?_ (fun b => ?_) a
  · refine (Function.update_self _ _ _).trans (Fin.ext ?_)
    exact (Nat.mod_eq_of_lt k.isLt).symm
  · refine (Function.update_of_ne (Fin.succ_ne_zero b) _ _).trans ?_
    refine Fin.cases ?_ (fun z => z.elim0) b
    rfl

/-! ## Sorting along an axis, at any shape -/

section Generic

variable {s : Shape} {α : Type}

theorem along_self (j : s.Idx) (d : Fin s.rank) (k : Fin (s.size d)) : (j.along d k) d = k := Function.update_self _ _ _

theorem along_along (j : s.Idx) (d : Fin s.rank) (k k' : Fin (s.size d)) : (j.along d k).along d k' = j.along d k' :=
  Function.update_idem _ _ _

/-- The comparison of an argsort along the fiber through `j`. -/
def fiberBefore (d : Fin s.rank) (cmp : α × BitVec 32 → α × BitVec 32 → BitVec 1) (x : s.Idx → α) (j : s.Idx)
    (k k' : Fin (s.size d)) : Bool :=
  cmp (x (j.along d k), BitVec.ofNat 32 k.val) (x (j.along d k'), BitVec.ofNat 32 k'.val) == 1#1

theorem argsort_eq (d : Fin s.rank) (cmp : α × BitVec 32 → α × BitVec 32 → BitVec 1) (x : s.Idx → α) (j : s.Idx) :
    (Host.sort2 s d.val cmp x (iotaInDim s 32 d)).2 j = BitVec.ofNat 32 (sortedFrom (fiberBefore d cmp x j) (j d)).val := by
  have hi : ∀ k : Fin (s.size d), iotaInDim s 32 d (j.along d k) = BitVec.ofNat 32 k.val := fun k =>
    congrArg (fun z : Fin (s.size d) => BitVec.ofNat 32 z.val) (along_self j d k)
  unfold Host.sort2
  rw [dif_pos d.isLt]
  refine (hi _).trans ?_
  have e : fiberBefore d cmp x j = fun k k' => cmp (x (j.along d k), iotaInDim s 32 d (j.along d k))
      (x (j.along d k'), iotaInDim s 32 d (j.along d k')) == 1#1 := by
    funext k k'
    rw [hi, hi]
    rfl
  rw [e]

/-- The argsort of an argsort along an axis, under a total order the first comparator gives with ties by position. -/
theorem argsort_argsort (d : Fin s.rank) (cmp : α × BitVec 32 → α × BitVec 32 → BitVec 1)
    (cmp' : BitVec 32 × BitVec 32 → BitVec 32 × BitVec 32 → BitVec 1)
    (hc : ∀ (a b : Fin (s.size d)) u v, (cmp' (BitVec.ofNat 32 a.val, u) (BitVec.ofNat 32 b.val, v) == 1#1) = decide (a < b))
    (x : s.Idx → α) (j : s.Idx) (lt : ℕ → ℕ → Prop) (h : Tot lt)
    (hB : ∀ a b, tie (fiberBefore d cmp x j) a b = true ↔ lt a.val b.val) :
    (Host.sort2 s d.val cmp' (Host.sort2 s d.val cmp x (iotaInDim s 32 d)).2 (iotaInDim s 32 d)).2 j
      = BitVec.ofNat 32 (rk (s.size d) lt (j d).val) := by
  rw [argsort_eq]
  congr 1
  refine argsort_twice _ _ lt h hB (fun a b => ?_) (j d)
  have e : ∀ k, fiberBefore d cmp x (j.along d k) = fiberBefore d cmp x j := fun k => by
    funext a b
    unfold fiberBefore
    rw [along_along, along_along]
  unfold fiberBefore
  rw [argsort_eq, argsort_eq, along_self, along_self, hc, decide_eq_true_iff, e, e]
  rfl

end Generic

theorem slt_ofNat {a b : ℕ} (ha : a < 16384) (hb : b < 16384) :
    (IntOp.cmpi .slt (BitVec.ofNat 32 a) (BitVec.ofNat 32 b) == 1#1) = decide (a < b) := by
  have hn : ∀ a : ℕ, a < 16384 → (BitVec.ofNat 32 a).toInt = (a : ℤ) := fun a ha => by
    rw [BitVec.toInt_eq_toNat_of_lt (by rw [BitVec.toNat_ofNat, Nat.mod_eq_of_lt (by omega)]; omega), BitVec.toNat_ofNat,
      Nat.mod_eq_of_lt (by omega)]
  unfold IntOp.cmpi
  simp only [BitVec.slt, hn a ha, hn b hb]
  by_cases h : a < b <;> simp [h]

/-- The reference's argsort of the argsort. -/
def rankWords (x : SA.Idx → BitVec 32) : SA.Idx → BitVec 32 :=
  (Host.sort2 SA 0 Cert.ReferenceIdeal.comparator_i32_i32_d0 ((Host.sort2 SA 0 (Cert.ReferenceIdeal.comparator_f32_i32_d0 (F := Ideal))
    (bitcastToFloat (F := Ideal) .f32 x) (iotaInDim SA 32 0)).2) (iotaInDim SA 32 0)).2

theorem tie_iff {x : SA.Idx → BitVec 32} (hx : Tame x) (j : SA.Idx) (a b : Fin 16384) :
    tie (fiberBefore (s := SA) (0 : Fin 2) (Cert.ReferenceIdeal.comparator_f32_i32_d0 (F := Ideal)) (bitcastToFloat (F := Ideal) .f32 x) j) a b
      = true ↔ L3 (colFn x (j 1)) a.val b.val := by
  have hf : ∀ a b : Fin 16384, fiberBefore (s := SA) (0 : Fin 2) (Cert.ReferenceIdeal.comparator_f32_i32_d0 (F := Ideal))
      (bitcastToFloat (F := Ideal) .f32 x) j a b = decide ((keyOf (colFn x (j 1) a.val)).toNat < (keyOf (colFn x (j 1) b.val)).toNat) := by
    intro a b
    have e1 : ∀ k : Fin 16384, x (j.along (0 : Fin 2) k) = colFn x (j 1) k.val := fun k => congrArg x (along_eq j k)
    refine (comparator_eq _ _).trans (decide_eq_decide.mpr ?_)
    have e := olt_iff (hx (j.along (0 : Fin 2) a)) (hx (j.along (0 : Fin 2) b))
    rw [← e1, ← e1]
    exact e
  rw [L3_iff]
  unfold tie
  rw [hf, hf]
  simp only [Bool.or_eq_true, Bool.and_eq_true, Bool.not_eq_true', decide_eq_true_iff, decide_eq_false_iff_not]
  generalize (keyOf (colFn x (j 1) a.val)).toNat = u
  generalize (keyOf (colFn x (j 1) b.val)).toNat = v
  show u < v ∨ ¬ v < u ∧ a.val < b.val ↔ u < v ∨ u = v ∧ a.val < b.val
  generalize a.val = p
  generalize b.val = q
  omega

/-- The reference's argsort of the argsort is the kernel's rank. -/
theorem rankWords_eq {x : SA.Idx → BitVec 32} (hx : Tame x) (j : SA.Idx) :
    rankWords x j = BitVec.ofNat 32 (rk NN (L3 (colFn x (j 1))) (j 0).val) :=
  argsort_argsort (s := SA) (0 : Fin 2) _ _ (fun a b _ _ => slt_ofNat a.isLt b.isLt) _ j (L3 (colFn x (j 1))) (tot3 _) (tie_iff hx j)

/-- What the precondition says of an argument's words. -/
theorem tame_of (x : SA.Idx → BitVec 32) (h1 : ∀ i, IntOp.cmpi .sle (IntOp.andi (x i) 2147483647#32) 2139095040#32 = 1#1)
    (h2 : ∀ i, IntOp.cmpi .ne (x i) 2147483648#32 = 1#1) : Tame x := by
  intro i
  refine ⟨fun hn => ?_, fun e => ?_⟩
  · have h := h1 i
    generalize x i = b at hn h
    have hm := TotalOrder.toNat_eq_sign_add_mag (e := 8) (m := 23) b
    have hl := TotalOrder.mag_lt 8 23 b
    have hv : TotalOrder.mag 8 23 b > 2139095040 := by
      unfold TotalOrder.mag; rw [hn.1]
      have := hn.2
      omega
    have ha : (b &&& 2147483647#32).toNat = TotalOrder.mag 8 23 b := by
      rw [BitVec.toNat_and, show (2147483647#32 : BitVec 32).toNat = 2 ^ 31 - 1 from rfl, Nat.and_two_pow_sub_one_eq_mod]
      split at hm <;> omega
    have hs : (b &&& 2147483647#32).toInt = (b &&& 2147483647#32).toNat := BitVec.toInt_eq_toNat_of_lt (by omega)
    unfold IntOp.cmpi IntOp.andi at h
    simp only [BitVec.sle, hs, ha] at h
    have e : (2139095040#32 : BitVec 32).toInt = 2139095040 := by decide
    rw [e] at h
    have : ¬ ((TotalOrder.mag 8 23 b : ℤ) ≤ 2139095040) := by omega
    simp [this] at h
  · have h := h2 i
    rw [e] at h
    exact absurd h (by decide)

theorem tame_split [Cert.Pre_tame.Facts] (x y : SA.Idx → BitVec 32) (h : Cert.Pre_tame.fn (F := Ideal) x y = fun _ => 1#1) :
    Tame x ∧ Tame y := by
  have h := congrFun h ValueIdx.ix0
  have key : ∀ a b : BitVec 1, IntOp.andi a b = 1#1 → a = 1#1 ∧ b = 1#1 := by decide
  unfold Cert.Pre_tame.fn Cert.Pre_tame.fn_part1 at h
  obtain ⟨h, h4⟩ := key _ _ h
  obtain ⟨h, h3⟩ := key _ _ h
  obtain ⟨h1, h2⟩ := key _ _ h
  haveI : Subsingleton Cert.Pre_tame.S_.Idx := ⟨fun a b => funext fun i => i.elim0⟩
  exact ⟨tame_of x (Host.reduce_andi_all _ _ _ _ _ h1) (Host.reduce_andi_all _ _ _ _ _ h3),
    tame_of y (Host.reduce_andi_all _ _ _ _ _ h2) (Host.reduce_andi_all _ _ _ _ _ h4)⟩

end Cert.Proof.Spearman

end
-- ==== Proof.Reals.lean ====
/-
  The real numbers of the comparison: the constants both programs name, sums of extended reals that are real,
  and sums over a column's ranks, which are the sums over `0 … 16383`.
-/
module

public import proofs.«01_k».proof.Proof.Passes
public import Idealize.ShloMosaic.PureOps.Ideal.Laws
public import Idealize.ShloMosaic.Lib.IdealHost
public import Mathlib.Tactic.NormNum
public import Mathlib.Tactic.Linarith
public import Mathlib.Tactic.FieldSimp
public import Mathlib.Algebra.BigOperators.Fin

@[expose] public section

noncomputable section

namespace Cert.Proof.Spearman

open Idealize.ShloMosaic
open scoped BigOperators

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  unfold Ideal.div
  rw [if_neg (by rw [EReal.coe_eq_zero]; exact hb), ← EReal.coe_inv, ← EReal.coe_mul, div_eq_mul_inv]

theorem sqrt_coe {a : ℝ} (ha : 0 ≤ a) : Ideal.sqrt (a : EReal) = ((Real.sqrt a : ℝ) : EReal) := by
  show (if a < 0 then (⊥ : EReal) else (Real.sqrt a : EReal)) = _
  rw [if_neg (not_lt.mpr ha)]

theorem bits_n : Ideal.ofBits .f32 0x46800000#32 = ((16384 : ℝ) : EReal) := by
  simp [Ideal.ofBits, Ideal.ieee, -EReal.coe_mul]; norm_num
theorem bits_c : Ideal.ofBits .f32 0x43000000#32 = ((128 : ℝ) : EReal) := by
  simp [Ideal.ofBits, Ideal.ieee, -EReal.coe_mul]; norm_num
theorem bits_mid : Ideal.ofBits .f32 0x45FFFC00#32 = ((16383 / 2 : ℝ) : EReal) := by
  simp [Ideal.ofBits, Ideal.ieee, -EReal.coe_mul]; norm_num

/-- The number the small constant's word denotes. -/
def epsW : ℝ := 8796093 / 8796093022208
theorem bits_eps : Ideal.ofBits .f32 0x358637BD#32 = ((epsW : ℝ) : EReal) := by
  unfold epsW
  simp [Ideal.ofBits, Ideal.ieee, -EReal.coe_mul]; norm_num

/-- The variance of the numbers `1 … 16384`. -/
def varN : ℝ := 89478485 / 4

theorem sum_id (n : ℕ) : ∑ i ∈ Finset.range n, (i : ℝ) = n * (n - 1) / 2 := by
  induction n with
  | zero => simp
  | succ n ih => rw [Finset.sum_range_succ, ih]; push_cast; ring

theorem sum_sq (n : ℕ) : ∑ i ∈ Finset.range n, (i : ℝ) * i = n * (n - 1) * (2 * n - 1) / 6 := by
  induction n with
  | zero => simp
  | succ n ih => rw [Finset.sum_range_succ, ih]; push_cast; ring

/-- A position's rank among its column's words. -/
def rank (raw : ℕ → BitVec 32) (x : ℕ) : ℕ := rk NN (L3 raw) x

/-- A sum over a column's ranks is the sum over all of them. -/
theorem sum_rank (raw : ℕ → BitVec 32) (f : ℕ → ℝ) : ∑ k : Fin 16384, f (rank raw k.val) = ∑ i ∈ Finset.range 16384, f i := by
  rw [Fin.sum_univ_eq_sum_range (fun i => f (rank raw i)) 16384]
  exact (sum_rk (tot3 raw) f).symm

theorem rank_lt (raw : ℕ → BitVec 32) (x : ℕ) (hx : x < 16384) : rank raw x < 16384 := rk_lt_n (tot3 raw) hx

/-- The centred rank. -/
def cr (raw : ℕ → BitVec 32) (x : ℕ) : ℝ := (rank raw x : ℝ) - 16383 / 2

theorem sum_rank1 (raw : ℕ → BitVec 32) : ∑ k : Fin 16384, ((rank raw k.val : ℝ) + 1) = 134225920 := by
  rw [sum_rank raw (fun i => (i : ℝ) + 1), Finset.sum_add_distrib, sum_id, Finset.sum_const, Finset.card_range]
  norm_num

theorem sum_cr_sq (raw : ℕ → BitVec 32) : ∑ k : Fin 16384, cr raw k.val * cr raw k.val = 16384 * varN := by
  unfold cr
  rw [sum_rank raw (fun i => ((i : ℝ) - 16383 / 2) * ((i : ℝ) - 16383 / 2))]
  have e : ∀ i : ℕ, ((i : ℝ) - 16383 / 2) * ((i : ℝ) - 16383 / 2) = (i : ℝ) * i + (-16383) * (i : ℝ) + 268402689 / 4 := fun i => by ring
  simp only [e]
  rw [Finset.sum_add_distrib, Finset.sum_add_distrib, ← Finset.mul_sum, sum_id, sum_sq, Finset.sum_const, Finset.card_range]
  unfold varN
  norm_num

end Cert.Proof.Spearman

end
-- ==== Proof.RefValue.lean ====
/-
  The reference's value: minus the mean, over the columns, of the mean product of the two arguments' centred
  ranks over the variance of `1 … 16384` plus twice the small constant.
-/
module

public import proofs.«01_k».proof.Proof.Gen.ReferenceIdeal.Run
public import proofs.«01_k».proof.Proof.RefSort
public import proofs.«01_k».proof.Proof.Reals
public import Idealize.ShloMosaic.Lib.Pointwise.Reduce
public import Idealize.ShloMosaic.Lib.Pipeline.Value

@[expose] public section

noncomputable section

namespace Cert.Proof.Spearman

open Idealize.ShloMosaic
open Cert.ReferenceIdeal Cert.ReferenceIdeal.Gen
open scoped BigOperators

/-- The ranks of an argument's columns, from one. -/
def refRanks (x : S16384x128.Idx → BitVec 32) : FVec Ideal S16384x128 .f32 :=
  sitofp .f32 (addi ((Host.sort2 S16384x128 0 comparator_i32_i32_d0 ((Host.sort2 S16384x128 0 (comparator_f32_i32_d0 (F := Ideal))
    (bitcastToFloat (F := Ideal) .f32 x) (iotaInDim S16384x128 32 0)).2) (iotaInDim S16384x128 32 0)).2)
    (broadcastInDim S16384x128 ![] bcast_S_S16384x128 (constantI S_ 32 1#32)))

/-- An array less its columns' means. -/
def refCentred (r : FVec Ideal S16384x128 .f32) : FVec Ideal S16384x128 .f32 :=
  subf r (broadcastInDim S16384x128 ![0, 1] bcast_S1x128_S16384x128_0_1 (Host.divf (broadcastInDim S1x128 ![1] bcast_S128_S1x128_1
    (Host.reduceAdd r (constant S_ .f32 0x00000000#32) reducesTo_S16384x128_S128_d0 h_S_))
    (broadcastInDim S1x128 ![] bcast_S_S1x128 (constant S_ .f32 0x46800000#32))))

/-- The columns' mean products. -/
def refCov (p t : FVec Ideal S16384x128 .f32) : FVec Ideal S128 .f32 :=
  Host.divf (Host.reduceAdd (mulf (refCentred p) (refCentred t)) (constant S_ .f32 0x00000000#32) reducesTo_S16384x128_S128_d0 h_S_)
    (broadcastInDim S128 ![] bcast_S_S128 (constant S_ .f32 0x46800000#32))

/-- The columns' standard deviations. -/
def refStd (r : FVec Ideal S16384x128 .f32) : FVec Ideal S128 .f32 :=
  Host.sqrt (addf (select (broadcastInDim S128 ![] bcast_S_S128 (cmpf .ogt (subf (constant S_ .f32 0x46800000#32)
      (sitofp .f32 (constantI S_ 32 0#32)) : FVec Ideal S_ .f32) (constant S_ .f32 0x00000000#32)))
    (Host.divf (Host.reduceAdd (mulf (refCentred r) (refCentred r)) (constant S_ .f32 0x00000000#32) reducesTo_S16384x128_S128_d0 h_S_)
      (broadcastInDim S128 ![] bcast_S_S128 (subf (constant S_ .f32 0x46800000#32) (sitofp .f32 (constantI S_ 32 0#32)))))
    (broadcastInDim S128 ![] bcast_S_S128 (id (constant S_ .f32 0x7FC00000#32))))
    (broadcastInDim S128 ![] bcast_S_S128 (constant S_ .f32 0x358637BD#32)))

/-- The reference's result as a function of its arguments. -/
def refOut (x y : S16384x128.Idx → BitVec 32) : FVec Ideal S_ .f32 :=
  Host.negf (Host.divf (Host.reduceAdd (Host.divf (refCov (refRanks x) (refRanks y)) (addf (mulf (refStd (refRanks x)) (refStd (refRanks y)))
    (broadcastInDim S128 ![] bcast_S_S128 (constant S_ .f32 0x358637BD#32)))) (constant S_ .f32 0x00000000#32) reducesTo_S128_S_d0 h_S_)
    (constant S_ .f32 0x43000000#32))

set_option maxRecDepth 8192 in
theorem res_eq (m : (ℓ : Loc nD τ sig) → Buf (Elt Ideal) ℓ) (c : Dev nD) :
    Cert.ReferenceIdeal.Value.res_main_v42 m c = refOut (m ((c.tc : Thread nD τ).loc main_arg0)) (m ((c.tc : Thread nD τ).loc main_arg1)) := by
  unfold Cert.ReferenceIdeal.Value.res_main_v42 refOut refCov refStd refCentred refRanks
  rfl

/-! ## Index by index -/

theorem scalar_cols {α : Type} (x : S_.Idx → α) (j : S128.Idx) : broadcastInDim S128 ![] bcast_S_S128 x j = x ValueIdx.ix0 :=
  ValueIdx.broadcastInDim_scalar_apply _ x j

theorem refRanks_apply {x : S16384x128.Idx → BitVec 32} (hx : Tame x) (j : S16384x128.Idx) :
    refRanks x j = (((rank (colFn x (j 1)) (j 0).val : ℝ) + 1 : ℝ) : EReal) := by
  have hr : rank (colFn x (j 1)) (j 0).val < 16384 := rank_lt _ _ (j 0).isLt
  have hw : refRanks x j = (((IntOp.addi (rankWords x j) 1#32).toInt : ℝ) : EReal) := rfl
  have hv : rankWords x j = BitVec.ofNat 32 (rank (colFn x (j 1)) (j 0).val) := rankWords_eq hx j
  rw [hw, hv]
  generalize rank (colFn x (j 1)) (j 0).val = r at hr
  have e : (IntOp.addi (BitVec.ofNat 32 r) 1#32).toInt = (r : ℤ) + 1 := by
    have hn : (IntOp.addi (BitVec.ofNat 32 r) 1#32).toNat = r + 1 := by
      unfold IntOp.addi
      rw [BitVec.toNat_add, BitVec.toNat_ofNat, Nat.mod_eq_of_lt (by omega : r < 2 ^ 32)]
      exact Nat.mod_eq_of_lt (by show r + 1 < 2 ^ 32; omega)
    rw [BitVec.toInt_eq_toNat_of_lt (by omega), hn]
    push_cast; rfl
  rw [e]
  push_cast
  rfl

/-- A sum down the columns. -/
theorem colsum_apply (v : FVec Ideal S16384x128 .f32) (j : S128.Idx) :
    Host.reduceAdd v (constant S_ .f32 0x00000000#32) reducesTo_S16384x128_S128_d0 h_S_ j = ∑ k : Fin 16384, v (ix2 k (j 0)) := by
  have h : Host.reduceAdd v (constant S_ .f32 0x00000000#32) reducesTo_S16384x128_S128_d0 h_S_ j
      = Ideal.hostReduceAdd reducesTo_S16384x128_S128_d0 v (Ideal.ofBits .f32 0x00000000#32) j := rfl
  rw [h, Ideal.hostReduceAdd_r2_a0, Ideal.ofBits_zero_f32, zero_add]
  rfl

theorem ranksum_apply {x : S16384x128.Idx → BitVec 32} (hx : Tame x) (j : S128.Idx) :
    Host.reduceAdd (refRanks x) (constant S_ .f32 0x00000000#32) reducesTo_S16384x128_S128_d0 h_S_ j = ((134225920 : ℝ) : EReal) := by
  rw [colsum_apply]
  have h : ∀ k : Fin 16384, refRanks x (ix2 k (j 0)) = (((rank (colFn x (j 0)) k.val : ℝ) + 1 : ℝ) : EReal) := fun k =>
    refRanks_apply hx _
  simp only [h]
  rw [coe_sum]
  exact congrArg Real.toEReal (sum_rank1 (colFn x (j 0)))

theorem mean_apply {x : S16384x128.Idx → BitVec 32} (hx : Tame x) (c : Fin 128) :
    Host.divf (broadcastInDim S1x128 ![1] bcast_S128_S1x128_1
      (Host.reduceAdd (refRanks x) (constant S_ .f32 0x00000000#32) reducesTo_S16384x128_S128_d0 h_S_))
      (broadcastInDim S1x128 ![] bcast_S_S1x128 (constant S_ .f32 0x46800000#32)) (ix2 (0 : Fin 1) c) = ((16385 / 2 : ℝ) : EReal) := by
  have h1 : broadcastInDim S1x128 ![1] bcast_S128_S1x128_1
      (Host.reduceAdd (refRanks x) (constant S_ .f32 0x00000000#32) reducesTo_S16384x128_S128_d0 h_S_) (ix2 (0 : Fin 1) c)
      = ((134225920 : ℝ) : EReal) := by
    generalize hv : Host.reduceAdd (refRanks x) (constant S_ .f32 0x00000000#32) reducesTo_S16384x128_S128_d0 h_S_ = v
    have e := broadcastInDim_apply (α := EReal) (s := S128) (t := S1x128) ![1] bcast_S128_S1x128_1 v (ix2 (0 : Fin 1) c) (ix1 c) (fun a => by
      obtain rfl : a = 0 := Subsingleton.elim _ _
      exact (if_neg (by decide)).symm)
    rw [e, ← hv]
    exact ranksum_apply hx (ix1 c)
  have h2 : broadcastInDim S1x128 ![] bcast_S_S1x128 (constant (F := Ideal) S_ .f32 0x46800000#32) (ix2 (0 : Fin 1) c) = ((16384 : ℝ) : EReal) :=
    (ValueIdx.broadcastInDim_scalar_apply _ _ _).trans bits_n
  rw [ValueIdx.hostDivf_apply, h1, h2, div_coe _ (by norm_num)]
  norm_num

theorem refCentred_apply {x : S16384x128.Idx → BitVec 32} (hx : Tame x) (j : S16384x128.Idx) :
    refCentred (refRanks x) j = ((cr (colFn x (j 1)) (j 0).val : ℝ) : EReal) := by
  have hm : broadcastInDim S16384x128 ![0, 1] bcast_S1x128_S16384x128_0_1 (Host.divf (broadcastInDim S1x128 ![1] bcast_S128_S1x128_1
      (Host.reduceAdd (refRanks x) (constant S_ .f32 0x00000000#32) reducesTo_S16384x128_S128_d0 h_S_))
      (broadcastInDim S1x128 ![] bcast_S_S1x128 (constant S_ .f32 0x46800000#32))) j = ((16385 / 2 : ℝ) : EReal) := by
    have hv := mean_apply hx (j 1)
    generalize Host.divf (broadcastInDim S1x128 ![1] bcast_S128_S1x128_1
      (Host.reduceAdd (refRanks x) (constant S_ .f32 0x00000000#32) reducesTo_S16384x128_S128_d0 h_S_))
      (broadcastInDim S1x128 ![] bcast_S_S1x128 (constant S_ .f32 0x46800000#32)) = v at hv ⊢
    refine (broadcastInDim_apply (α := EReal) (s := S1x128) (t := S16384x128) ![0, 1] bcast_S1x128_S16384x128_0_1 v j (ix2 (0 : Fin 1) (j 1)) (fun a => ?_)).trans hv
    match a with
    | 0 => exact (if_pos rfl).symm
    | 1 => exact (if_neg (by decide)).symm
  have h : refCentred (refRanks x) j = refRanks x j - broadcastInDim S16384x128 ![0, 1] bcast_S1x128_S16384x128_0_1 (Host.divf (broadcastInDim S1x128 ![1] bcast_S128_S1x128_1
      (Host.reduceAdd (refRanks x) (constant S_ .f32 0x00000000#32) reducesTo_S16384x128_S128_d0 h_S_))
      (broadcastInDim S1x128 ![] bcast_S_S1x128 (constant S_ .f32 0x46800000#32))) j := rfl
  rw [h, hm, refRanks_apply hx, ← EReal.coe_sub]
  congr 1
  unfold cr
  ring

/-- A column's sum of products of centred ranks. -/
def prods (p t : ℕ → BitVec 32) : ℝ := ∑ k : Fin 16384, cr p k.val * cr t k.val

theorem products_apply {x y : S16384x128.Idx → BitVec 32} (hx : Tame x) (hy : Tame y) (j : S128.Idx) :
    Host.reduceAdd (mulf (refCentred (refRanks x)) (refCentred (refRanks y))) (constant S_ .f32 0x00000000#32) reducesTo_S16384x128_S128_d0 h_S_ j
      = ((prods (colFn x (j 0)) (colFn y (j 0)) : ℝ) : EReal) := by
  rw [colsum_apply]
  have h : ∀ k : Fin 16384, mulf (refCentred (refRanks x)) (refCentred (refRanks y)) (ix2 k (j 0))
      = ((cr (colFn x (j 0)) k.val * cr (colFn y (j 0)) k.val : ℝ) : EReal) := fun k => by
    have e : mulf (refCentred (refRanks x)) (refCentred (refRanks y)) (ix2 k (j 0))
        = refCentred (refRanks x) (ix2 k (j 0)) * refCentred (refRanks y) (ix2 k (j 0)) := rfl
    rw [e, refCentred_apply hx, refCentred_apply hy, ← EReal.coe_mul]
    rfl
  simp only [h]
  exact coe_sum _ _

theorem count_eq : (subf (constant S_ .f32 0x46800000#32) (sitofp .f32 (constantI S_ 32 0#32)) : FVec Ideal S_ .f32) ValueIdx.ix0 = ((16384 : ℝ) : EReal) := by
  have h : (subf (constant S_ .f32 0x46800000#32) (sitofp .f32 (constantI S_ 32 0#32)) : FVec Ideal S_ .f32) ValueIdx.ix0
      = Ideal.ofBits .f32 0x46800000#32 - (((0#32 : BitVec 32).toInt : ℝ) : EReal) := rfl
  rw [h, bits_n]
  simp

theorem refStd_apply {x : S16384x128.Idx → BitVec 32} (hx : Tame x) (j : S128.Idx) :
    refStd (refRanks x) j = ((Real.sqrt (varN + epsW) : ℝ) : EReal) := by
  have h : refStd (refRanks x) j = Ideal.sqrt (Scalar.select (broadcastInDim S128 ![] bcast_S_S128 (cmpf .ogt (subf (constant S_ .f32 0x46800000#32)
      (sitofp .f32 (constantI S_ 32 0#32)) : FVec Ideal S_ .f32) (constant S_ .f32 0x00000000#32)) j)
      (Ideal.div (Host.reduceAdd (mulf (refCentred (refRanks x)) (refCentred (refRanks x))) (constant S_ .f32 0x00000000#32) reducesTo_S16384x128_S128_d0 h_S_ j)
        (broadcastInDim S128 ![] bcast_S_S128 (subf (constant S_ .f32 0x46800000#32) (sitofp .f32 (constantI S_ 32 0#32)) : FVec Ideal S_ .f32) j))
      (broadcastInDim S128 ![] bcast_S_S128 (id (constant (F := Ideal) S_ .f32 0x7FC00000#32)) j)
      + broadcastInDim S128 ![] bcast_S_S128 (constant (F := Ideal) S_ .f32 0x358637BD#32) j) := rfl
  have hc : (cmpf .ogt (subf (constant S_ .f32 0x46800000#32)
      (sitofp .f32 (constantI S_ 32 0#32)) : FVec Ideal S_ .f32) (constant S_ .f32 0x00000000#32)) ValueIdx.ix0 = 1#1 := by
    have e : (cmpf .ogt (subf (constant S_ .f32 0x46800000#32)
      (sitofp .f32 (constantI S_ 32 0#32)) : FVec Ideal S_ .f32) (constant S_ .f32 0x00000000#32)) ValueIdx.ix0
      = Ideal.cmp .ogt ((subf (constant S_ .f32 0x46800000#32) (sitofp .f32 (constantI S_ 32 0#32)) : FVec Ideal S_ .f32) ValueIdx.ix0)
        (Ideal.ofBits .f32 0x00000000#32) := rfl
    rw [e, count_eq, Ideal.ofBits_zero_f32]
    unfold Ideal.cmp
    have : (0 : EReal) < ((16384 : ℝ) : EReal) := by exact_mod_cast (by norm_num : (0 : ℝ) < 16384)
    simp [this]
  have he : (constant (F := Ideal) S_ .f32 0x358637BD#32) ValueIdx.ix0 = ((epsW : ℝ) : EReal) := bits_eps
  rw [h]
  rw [scalar_cols, scalar_cols, scalar_cols, scalar_cols]
  rw [hc, count_eq, products_apply hx hx, he]
  have hs : ∀ a b : EReal, Scalar.select 1#1 a b = a := fun a b => rfl
  rw [hs, div_coe _ (by norm_num)]
  have hv : prods (colFn x (j 0)) (colFn x (j 0)) / 16384 = varN := by
    unfold prods
    rw [sum_cr_sq]
    ring
  rw [hv, ← EReal.coe_add, sqrt_coe (by unfold varN epsW; norm_num)]

/-- What the mean product is divided by. -/
def den : ℝ := varN + 2 * epsW

theorem refOut_eq {x y : S16384x128.Idx → BitVec 32} (hx : Tame x) (hy : Tame y) (j : S_.Idx) :
    refOut x y j = ((-((∑ c : Fin 128, prods (colFn x c) (colFn y c) / 16384 / den) / 128) : ℝ) : EReal) := by
  have hd : den ≠ 0 := by unfold den varN epsW; norm_num
  have h : refOut x y j = -(Ideal.div (Ideal.hostReduceAdd reducesTo_S128_S_d0 (Host.divf (refCov (refRanks x) (refRanks y)) (addf (mulf (refStd (refRanks x)) (refStd (refRanks y)))
      (broadcastInDim S128 ![] bcast_S_S128 (constant S_ .f32 0x358637BD#32)))) (Ideal.ofBits .f32 0x00000000#32) j) (Ideal.ofBits .f32 0x43000000#32)) := rfl
  have hk : ∀ k : S128.Idx, Host.divf (refCov (refRanks x) (refRanks y)) (addf (mulf (refStd (refRanks x)) (refStd (refRanks y)))
      (broadcastInDim S128 ![] bcast_S_S128 (constant S_ .f32 0x358637BD#32))) k
      = ((prods (colFn x (k 0)) (colFn y (k 0)) / 16384 / den : ℝ) : EReal) := fun k => by
    have e : Host.divf (refCov (refRanks x) (refRanks y)) (addf (mulf (refStd (refRanks x)) (refStd (refRanks y)))
        (broadcastInDim S128 ![] bcast_S_S128 (constant S_ .f32 0x358637BD#32))) k
        = Ideal.div (Ideal.div (Host.reduceAdd (mulf (refCentred (refRanks x)) (refCentred (refRanks y))) (constant S_ .f32 0x00000000#32) reducesTo_S16384x128_S128_d0 h_S_ k)
            (broadcastInDim S128 ![] bcast_S_S128 (constant (F := Ideal) S_ .f32 0x46800000#32) k))
          (refStd (refRanks x) k * refStd (refRanks y) k + broadcastInDim S128 ![] bcast_S_S128 (constant (F := Ideal) S_ .f32 0x358637BD#32) k) := rfl
    have he : (constant (F := Ideal) S_ .f32 0x358637BD#32) ValueIdx.ix0 = ((epsW : ℝ) : EReal) := bits_eps
    have hn : (constant (F := Ideal) S_ .f32 0x46800000#32) ValueIdx.ix0 = ((16384 : ℝ) : EReal) := bits_n
    have hs : Real.sqrt (varN + epsW) * Real.sqrt (varN + epsW) + epsW = den := by
      rw [Real.mul_self_sqrt (by unfold varN epsW; norm_num)]
      unfold den; ring
    rw [e, scalar_cols, scalar_cols, hn, he, products_apply hx hy, refStd_apply hx, refStd_apply hy,
      div_coe _ (by norm_num), ← EReal.coe_mul, ← EReal.coe_add, hs, div_coe _ hd]
  rw [h, Ideal.hostReduceAdd_r1_a0, Ideal.ofBits_zero_f32, zero_add, bits_c]
  simp only [hk]
  rw [coe_sum, div_coe _ (by norm_num), ← EReal.coe_neg]
  rfl

end Cert.Proof.Spearman

end
-- ==== Proof.KerValue.lean ====
/-
  The kernel's value at the extended reals: minus the sum, over the columns, of the sums of products of centred
  ranks, times the named scale.
-/
module

public import proofs.«01_k».proof.Proof.Main
public import proofs.«01_k».proof.Proof.RefSort
public import proofs.«01_k».proof.Proof.Reals
public import proofs.«01_k».proof.Proof.RefValue
public import Idealize.ShloMosaic.Lib.Pointwise.Reduce
public import Idealize.ShloMosaic.Lib.Pipeline.Value

@[expose] public section

noncomputable section

namespace Cert.Proof.Spearman

open Idealize.ShloMosaic
open Cert.KernelIdeal Cert.KernelIdeal.Gen
open scoped BigOperators

open Classical in
theorem rank_le (raw : ℕ → BitVec 32) (x : ℕ) : rank raw x ≤ 16384 := by
  unfold rank rk
  exact (Finset.card_filter_le _ _).trans (le_of_eq (Finset.card_range _))

theorem cen_val (raw : ℕ → BitVec 32) (x : ℕ) : cen Ideal (rk NN (L3 raw) x) = ((cr raw x : ℝ) : EReal) := by
  have hr : rk NN (L3 raw) x ≤ 16384 := rank_le raw x
  have h : cen Ideal (rk NN (L3 raw) x) = (((BitVec.ofNat 32 (rk NN (L3 raw) x)).toInt : ℝ) : EReal) - Ideal.ofBits .f32 0x45FFFC00#32 := rfl
  have e : (BitVec.ofNat 32 (rk NN (L3 raw) x)).toInt = ((rk NN (L3 raw) x : ℕ) : ℤ) := by
    have hn : (BitVec.ofNat 32 (rk NN (L3 raw) x)).toNat = rk NN (L3 raw) x := by
      rw [BitVec.toNat_ofNat]; exact Nat.mod_eq_of_lt (by omega)
    rw [BitVec.toInt_eq_toNat_of_lt (by omega), hn]
  rw [h, e, bits_mid, ← EReal.coe_sub]
  unfold cr rank
  push_cast
  rfl

/-- The position the third pass takes up at trip `k` in lane `l`. -/
def posAt (p : ℕ → BitVec 32) (i : ℕ) : ℕ := unrk NN (L2 p) i

/-- The product of the centred ranks of the position at place `i` before the third pass. -/
def term (p t : ℕ → BitVec 32) (i : ℕ) : ℝ := cr p (posAt p i) * cr t (posAt p i)

theorem accAt_val (p t : ℕ → BitVec 32) (k : ℕ) (x : S16.Idx) :
    accAt Ideal p (fun x => cen Ideal (rk NN (L3 t) x)) k x = ((∑ i ∈ Finset.range k, term p t (16 * i + (x 0).val) : ℝ) : EReal) := by
  induction k with
  | zero =>
    have h : accAt Ideal p (fun x => cen Ideal (rk NN (L3 t) x)) 0 x = Ideal.ofBits .f32 0x00000000#32 := rfl
    rw [h, Ideal.ofBits_zero_f32]; simp
  | succ k ih =>
    have h : accAt Ideal p (fun x => cen Ideal (rk NN (L3 t) x)) (k + 1) x = accAt Ideal p (fun x => cen Ideal (rk NN (L3 t) x)) k x
        + cen Ideal (rk NN (L3 p) (posAt p (16 * k + (x 0).val))) * cen Ideal (rk NN (L3 t) (posAt p (16 * k + (x 0).val))) := rfl
    rw [h, ih, cen_val, cen_val, ← EReal.coe_mul, ← EReal.coe_add, Finset.sum_range_succ]
    rfl

/-- A column's share of lane `l`. -/
def laneSum (p t : ℕ → BitVec 32) (l : ℕ) : ℝ := ∑ i ∈ Finset.range 1024, term p t (16 * i + l)

theorem sum_blocks (b : ℕ) (f : ℕ → ℝ) (n : ℕ) :
    ∑ i ∈ Finset.range n, ∑ l ∈ Finset.range b, f (b * i + l) = ∑ k ∈ Finset.range (b * n), f k := by
  induction n with
  | zero => simp
  | succ n ih => rw [Finset.sum_range_succ, ih, Nat.mul_succ, Finset.sum_range_add]

/-- The lanes' shares make up the column's sum of products. -/
theorem lanes_sum (p t : ℕ → BitVec 32) : ∑ l : Fin 16, laneSum p t l.val = prods p t := by
  unfold prods
  rw [Fin.sum_univ_eq_sum_range (fun l => laneSum p t l) 16, Fin.sum_univ_eq_sum_range (fun k => cr p k * cr t k) 16384]
  unfold laneSum
  rw [Finset.sum_comm, sum_blocks]
  have h := sum_rk (n := NN) (tot2 p) (fun i => term p t i)
  refine h.trans (Finset.sum_congr rfl fun x hx => ?_)
  unfold term posAt
  rw [unrk_rk (tot2 p) (Finset.mem_range.mp hx)]

theorem tileAcc_val (fp ft : S128x16384.Idx → BitVec 32) (r k : ℕ) (x : S16.Idx) :
    tileAcc Ideal fp ft r k x = ((∑ q ∈ Finset.range k, laneSum (rowFn fp (r + q)) (rowFn ft (r + q)) (x 0).val : ℝ) : EReal) := by
  induction k with
  | zero =>
    have h : tileAcc Ideal fp ft r 0 x = Ideal.ofBits .f32 0x00000000#32 := rfl
    rw [h, Ideal.ofBits_zero_f32]; simp
  | succ k ih =>
    have h : tileAcc Ideal fp ft r (k + 1) x = tileAcc Ideal fp ft r k x
        + accAt Ideal (rowFn fp (r + k)) (fun x => cen Ideal (rk NN (L3 (rowFn ft (r + k))) x)) 1024 x := rfl
    have e : accAt Ideal (rowFn fp (r + k)) (fun x => cen Ideal (rk NN (L3 (rowFn ft (r + k))) x)) 1024 x
        = ((laneSum (rowFn fp (r + k)) (rowFn ft (r + k)) (x 0).val : ℝ) : EReal) := accAt_val _ _ 1024 x
    rw [h, ih, e, ← EReal.coe_add, Finset.sum_range_succ]

/-- The named scale. -/
def scaleR : ℝ := 2097152 / 98382634693289195453

theorem tileOut_val (fp ft : S128x16384.Idx → BitVec 32) (r : ℕ) (x : S16.Idx) :
    tileOut Ideal fp ft r x
      = (((∑ q ∈ Finset.range 4, laneSum (rowFn fp (r + q)) (rowFn ft (r + q)) (x 0).val) * scaleR : ℝ) : EReal) := by
  have h : tileOut Ideal fp ft r x = tileAcc Ideal fp ft r 4 x * ((2097152 / 98382634693289195453 : ℝ) : EReal) := rfl
  rw [h, tileAcc_val, ← EReal.coe_mul]
  rfl

variable (m : (ℓ : Loc nD τ sig) → Buf (Elt Ideal) ℓ)

/-- The transposed argument's rows are the argument's columns. -/
theorem row_eq (x : SA.Idx → BitVec 32) (c : Fin 128) :
    rowFn (transpose S128x16384 [1, 0] x transposes_S16384x128_S128x16384_1_0) c.val = colFn x c := by
  funext y
  unfold rowFn colFn
  refine transpose_apply (s := SA) (t := S128x16384) [1, 0] x transposes_S16384x128_S128x16384_1_0 (at2 c.val y) (atA y c) fun b => ?_
  match b with
  | 0 => exact (Nat.mod_eq_of_lt c.isLt).symm
  | 1 => rfl

/-- The workers' lanes make up the sum over all columns. -/
theorem workers_sum (P T : ℕ → ℕ → BitVec 32) (s : ℝ) :
    ∑ w : Fin 32, ∑ l : Fin 16, (∑ q ∈ Finset.range 4, laneSum (P (4 * w.val + q)) (T (4 * w.val + q)) l.val) * s
      = (∑ c : Fin 128, prods (P c.val) (T c.val)) * s := by
  have hw : ∀ w : Fin 32, ∑ l : Fin 16, (∑ q ∈ Finset.range 4, laneSum (P (4 * w.val + q)) (T (4 * w.val + q)) l.val) * s
      = (∑ q ∈ Finset.range 4, prods (P (4 * w.val + q)) (T (4 * w.val + q))) * s := fun w => by
    rw [← Finset.sum_mul, Finset.sum_comm]
    exact congrArg (fun z : ℝ => z * s) (Finset.sum_congr rfl fun q _ => lanes_sum _ _)
  rw [Finset.sum_congr rfl fun w _ => hw w, ← Finset.sum_mul]
  refine congrArg (fun z : ℝ => z * s) ?_
  rw [Fin.sum_univ_eq_sum_range (fun w => ∑ q ∈ Finset.range 4, prods (P (4 * w + q)) (T (4 * w + q))) 32,
    sum_blocks 4 (fun c => prods (P c) (T c)) 32, Fin.sum_univ_eq_sum_range (fun c => prods (P c) (T c)) 128]

theorem outF_val (d : Dev nD) (w : Fin 32) (l : Fin 16) : outF m d (ix2 w l)
    = (((∑ q ∈ Finset.range 4, laneSum (rowFn (pT m d) (4 * w.val + q)) (rowFn (tT m d) (4 * w.val + q)) l.val) * scaleR : ℝ) : EReal) := by
  have e : outF m d (ix2 w l) = tileOut Ideal (pT m d) (tT m d) (4 * w.val) (ln l.val) := rfl
  rw [e, tileOut_val, ln_val l.isLt]

/-- Minus the sum of an array of real numbers. -/
theorem negSum_val (h : (⟨2, ![32, 16]⟩ : Shape).ReducesTo [0, 1] S_) (hu : 0 < S_.numel) (v : FVec Ideal ⟨2, ![32, 16]⟩ .f32)
    (g : Fin 32 → Fin 16 → ℝ) (hv : ∀ w l, v (ix2 w l) = ((g w l : ℝ) : EReal)) (j : S_.Idx) :
    Host.negf (Host.reduceAdd v (constant S_ .f32 0x00000000#32) h hu) j = ((-(∑ w, ∑ l, g w l) : ℝ) : EReal) := by
  have e : Host.negf (Host.reduceAdd v (constant S_ .f32 0x00000000#32) h hu) j
      = -(Ideal.hostReduceAdd h v (Ideal.ofBits .f32 0x00000000#32) j) := rfl
  rw [e, Ideal.hostReduceAdd_r2_a01, Ideal.ofBits_zero_f32, zero_add]
  simp only [hv, coe_sum]
  rw [← EReal.coe_neg]

/-- The kernel's result. -/
theorem resF_eq (d : Dev nD) (j : S_.Idx) :
    resF m d j = ((-((∑ c : Fin 128, prods (colFn (m (aLoc d)) c) (colFn (m (bLoc d)) c)) * scaleR) : ℝ) : EReal) := by
  refine (negSum_val reducesTo_S32x16_S_d0_1 h_S_ (outF m d) _ (outF_val m d) j).trans ?_
  rw [workers_sum (rowFn (pT m d)) (rowFn (tT m d)) scaleR]
  have hp : ∀ c : Fin 128, rowFn (pT m d) c.val = colFn (m (aLoc d)) c := fun c => row_eq _ c
  have ht : ∀ c : Fin 128, rowFn (tT m d) c.val = colFn (m (bLoc d)) c := fun c => row_eq _ c
  rw [Finset.sum_congr rfl fun c _ => congrArg₂ prods (hp c) (ht c)]

/-- The kernel's scale is the reference's: the rows, the columns and the product of deviations. -/
theorem scale_eq (f : Fin 128 → ℝ) : (∑ c, f c) * scaleR = (∑ c, f c / 16384 / den) / 128 := by
  rw [Finset.sum_mul, Finset.sum_div]
  refine Finset.sum_congr rfl fun c _ => ?_
  have hd : scaleR = 1 / 16384 / den / 128 := by
    unfold scaleR den varN epsW; norm_num
  rw [hd]; ring

end Cert.Proof.Spearman

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Main
public import proofs.«01_k».proof.Proof.RefValue
public import proofs.«01_k».proof.Proof.KerValue
public import Idealize.ShloMosaic.Adequacy
public import Idealize.ShloMosaic.Init
public import Idealize.ShloMosaic.Lib.Quiescent

@[expose] public section

noncomputable section

namespace Cert.Proof

open Idealize.ShloMosaic Idealize.SL.Sem

/-- At the bits a named constant is the word it stands for: the kernel's own text is then the text the run is proved of. -/
local instance namedBits : Named Bits where
  named := fun _ _ {φ} b => FloatOps.ofBits φ b

instance nonempty_bits : ∀ e, Nonempty (Elt Bits e) := by intro e; cases e <;> exact ⟨0⟩

set_option maxHeartbeats 1600000 in
theorem frame_kernel : Cert.quiescent_Kernel (hKernel := Cert.Kernel.Gen.facts) := fun m ρ _ =>
  (θ_run Cert.Kernel.defs _ _).mono (fun _ h => ⟨fun c => ⟨(h.1 c).1, (h.1 c).2.1⟩, h.2⟩) (Cert.Proof.Spearman.run_main (F := Bits) m ρ)

instance nonempty_ideal : ∀ e, Nonempty (Elt Ideal e) := by
  intro e; cases e <;> first | exact ⟨(0 : EReal)⟩ | exact ⟨0⟩

theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.Proof.Spearman.run_main (F := Ideal) m ρ)

theorem preserves : Cert.preserves_Kernel_KernelIdeal := IdealRules.named_const.statement Cert.KernelIdeal.κ "scale" .f32 0x28C00000#32 _ rfl

theorem frame_referenceIdeal : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

theorem tame_facts : Cert.Pre_tame.Facts where
  bcast_S_S16384x128 := by decide
  reducesTo_S16384x128_S_d0_1 := by decide
  h_S_ := by decide

/-- The two programs' results are one real number. -/
theorem results_eq [Cert.Pre_tame.Facts] (m : (ℓ : Loc Cert.KernelIdeal.nD Cert.KernelIdeal.τ Cert.KernelIdeal.sig) → Buf (Elt Ideal) ℓ)
    (d : Dev Cert.KernelIdeal.nD) (x y : Cert.Proof.Spearman.SA.Idx → BitVec 32)
    (hx : x = m (Cert.Proof.Spearman.aLoc d)) (hy : y = m (Cert.Proof.Spearman.bLoc d))
    (ht : Cert.Pre_tame.fn (F := Ideal) x y = fun _ => 1#1) :
    Cert.Proof.Spearman.refOut x y = Cert.Proof.Spearman.resF m d := by
  funext j
  obtain ⟨tx, ty⟩ := Cert.Proof.Spearman.tame_split x y ht
  rw [Cert.Proof.Spearman.refOut_eq tx ty]
  refine Eq.trans ?_ (Cert.Proof.Spearman.resF_eq m d j).symm
  rw [Cert.Proof.Spearman.scale_eq, hx, hy]

theorem algebraic : Cert.algebraic_KernelIdeal_ReferenceIdeal_pre_tame (hKernelIdeal := Cert.KernelIdeal.Gen.facts)
    (hReferenceIdeal := Cert.ReferenceIdeal.Gen.facts) (hPre_tame := tame_facts) := by
  intro m g m' g' htame hargs
  refine ⟨Cert.Proof.Spearman.resF m, (θ_run Cert.KernelIdeal.defs _ _).mono (fun _ h c => ?_) (Cert.Proof.Spearman.run_main (F := Ideal) m g),
    (θ_run Cert.ReferenceIdeal.defs _ _).mono (fun r h c => ?_) (Cert.ReferenceIdeal.Value.run (F := Ideal) m' g')⟩
  · exact ⟨(h.1 c).2.2, (h.1 c).1, (h.1 c).2.1⟩
  refine ⟨(h c).1.trans ((Cert.Proof.Spearman.res_eq m' c).trans ?_), (h c).2.1, (h c).2.2⟩
  have ht := htame c
  rw [← (hargs c).1, ← (hargs c).2] at ht
  exact @results_eq tame_facts m c _ _ (hargs c).1 (hargs c).2 ht

theorem claim : Cert.Claim :=
  ⟨Cert.Kernel.Gen.facts, Cert.KernelIdeal.Gen.facts, Cert.ReferenceIdeal.Gen.facts, tame_facts, frame_kernel, frame_kernelIdeal,
    fun m ρ h => frame_kernelIdeal m ρ trivial, frame_referenceIdeal, fun m ρ h => frame_referenceIdeal m ρ trivial, preserves, algebraic⟩

end Cert.Proof

end
